-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "scale" .f32 0x4107E439#32 ((Real.sqrt (50 * (Real.log 2)⁻¹) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2_9" .f32 0x3D9DBAC0#32 (((Real.log 2) * (1 / 9) : ℝ) : EReal)
  ∧ IdealRules.named_const.Statement Cert.KernelIdeal.κ "c_m" .f32 0xBFFA1356#32 ((Real.log (9 * (((1 / 50) * Real.pi) * (Real.sqrt ((1 / 50) * Real.pi)))) : ℝ) : EReal)
  ∧ IdealRules.named_const.Statement Cert.KernelIdeal.κ "c_j" .f32 0xC0C35955#32 ((Real.log (9 * (((1 / 50) * Real.pi) * (((1 / 50) * Real.pi) * ((1 / 50) * Real.pi)))) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4x3x192x192 : Shape := ⟨5, ![4, 4, 3, 192, 192]⟩
abbrev S_ : Shape := ⟨0, ![]⟩

class Facts : Prop where
  bcast_S_S4x4x3x192x192 : S_.BroadcastsInDim S4x4x3x192x192 (![] : Fin 0 → Fin S4x4x3x192x192.rank)

variable [Facts]

def fn {F : FTy → Type} [FloatOps F] (main_arg0 : FVec F S4x4x3x192x192 .f32) : IVec S4x4x3x192x192 1 :=
  let main_v0 : FVec F S4x4x3x192x192 .f32 := Host.absf main_arg0
  let main_cst : FVec F S_ .f32 := constant S_ .f32 0x7F800000#32
  let main_v1 : FVec F S4x4x3x192x192 .f32 := broadcastInDim S4x4x3x192x192 ![] bcast_S_S4x4x3x192x192 main_cst
  let main_v2 : IVec S4x4x3x192x192 1 := cmpf .olt main_v0 main_v1
  main_v2
-- ==== Kernel.lean ====
abbrev S4x4x3x192x192 : Shape := ⟨5, ![4, 4, 3, 192, 192]⟩
abbrev S16x3x192x192 : Shape := ⟨4, ![16, 3, 192, 192]⟩
abbrev S16x2x192x192 : Shape := ⟨4, ![16, 2, 192, 192]⟩
abbrev S1x3x192x192 : Shape := ⟨4, ![1, 3, 192, 192]⟩
abbrev S1x2x192x192 : Shape := ⟨4, ![1, 2, 192, 192]⟩
abbrev S1x1x192x192 : Shape := ⟨4, ![1, 1, 192, 192]⟩
abbrev S192x192 : Shape := ⟨2, ![192, 192]⟩
abbrev S192x2 : Shape := ⟨2, ![192, 2]⟩
abbrev S192x190 : Shape := ⟨2, ![192, 190]⟩
abbrev S192x1 : Shape := ⟨2, ![192, 1]⟩
abbrev S192x191 : Shape := ⟨2, ![192, 191]⟩
abbrev S1x192 : Shape := ⟨2, ![1, 192]⟩
abbrev S191x192 : Shape := ⟨2, ![191, 192]⟩
abbrev S2x192 : Shape := ⟨2, ![2, 192]⟩
abbrev S190x192 : Shape := ⟨2, ![190, 192]⟩
abbrev S190x190 : Shape := ⟨2, ![190, 190]⟩
abbrev S2x192x192 : Shape := ⟨3, ![2, 192, 192]⟩
abbrev S1x1x190x190 : Shape := ⟨4, ![1, 1, 190, 190]⟩
abbrev S4x4x2x192x192 : Shape := ⟨5, ![4, 4, 2, 192, 192]⟩

abbrev nBuf : Space → Nat
  | .hbm => 4
  | .vmem => 6
  | .smem => 0
  | _ => 0

abbrev bufTy : (tb : Table) → Fin (tcTables nBuf tb) → BufTy
  | .hbm, ⟨0, _⟩ => ⟨S4x4x3x192x192, .f32⟩
  | .hbm, ⟨1, _⟩ => ⟨S16x3x192x192, .f32⟩
  | .hbm, ⟨2, _⟩ => ⟨S16x2x192x192, .f32⟩
  | .hbm, ⟨3, _⟩ => ⟨S4x4x2x192x192, .f32⟩
  | .local _ .vmem, ⟨0, _⟩ => ⟨S1x3x192x192, .f32⟩
  | .local _ .vmem, ⟨1, _⟩ => ⟨S1x3x192x192, .f32⟩
  | .local _ .vmem, ⟨2, _⟩ => ⟨S1x3x192x192, .f32⟩
  | .local _ .vmem, ⟨3, _⟩ => ⟨S1x3x192x192, .f32⟩
  | .local _ .vmem, ⟨4, _⟩ => ⟨S1x2x192x192, .f32⟩
  | .local _ .vmem, ⟨5, _⟩ => ⟨S1x2x192x192, .f32⟩
  | _, _ => ⟨S4x4x3x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c3_i32 : BitVec 32 := 3#32
  let v10 : BitVec 1 := Scalar.cmpi .eq v9 c3_i32
  let c1_i32_3 : BitVec 32 := 1#32
  let v11 : BitVec 32 := Scalar.addi arg0 c1_i32_3
  let v12 : BitVec 32 := Scalar.select v10 arg0 v11
  let c0_i32_4 : BitVec 32 := 0#32
  let c0_i32_5 : BitVec 32 := 0#32
  let c0_i32_6 : BitVec 32 := 0#32
  let c0_i32_7 : BitVec 32 := 0#32
  ![v12.toNat, c0_i32_4.toNat, c0_i32_5.toNat, c0_i32_6.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x192x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "c_j" => some ((Real.log (9 * (((1 / 50) * Real.pi) * (((1 / 50) * Real.pi) * ((1 / 50) * Real.pi)))) : ℝ) : EReal)
  | "c_m" => some ((Real.log (9 * (((1 / 50) * Real.pi) * (Real.sqrt ((1 / 50) * Real.pi)))) : ℝ) : EReal)
  | "ln2_9" => some (((Real.log 2) * (1 / 9) : ℝ) : EReal)
  | "log2e" => some (((Real.log 2)⁻¹ : ℝ) : EReal)
  | "scale" => some ((Real.sqrt (50 * (Real.log 2)⁻¹) : ℝ) : EReal)
  | _ => none
-- ==== ReferenceIdeal.lean ====
abbrev S4x4x3x192x192 : Shape := ⟨5, ![4, 4, 3, 192, 192]⟩
abbrev S_ : Shape := ⟨0, ![]⟩
abbrev S4x4x3x190x190 : Shape := ⟨5, ![4, 4, 3, 190, 190]⟩
abbrev S4x4x3x1x190x190 : Shape := ⟨6, ![4, 4, 3, 1, 190, 190]⟩
abbrev S4x4x3x9x190x190 : Shape := ⟨6, ![4, 4, 3, 9, 190, 190]⟩
abbrev S4x4x190x190x9x3 : Shape := ⟨6, ![4, 4, 190, 190, 9, 3]⟩
abbrev S4x4x190x190x9 : Shape := ⟨5, ![4, 4, 190, 190, 9]⟩
abbrev S4x4x190x190x9x1 : Shape := ⟨6, ![4, 4, 190, 190, 9, 1]⟩
abbrev S4x4x190x190x1x9 : Shape := ⟨6, ![4, 4, 190, 190, 1, 9]⟩
abbrev S4x4x190x190x9x9 : Shape := ⟨6, ![4, 4, 190, 190, 9, 9]⟩
abbrev S4x4x190x190 : Shape := ⟨4, ![4, 4, 190, 190]⟩
abbrev S4x3x190x190x9x3 : Shape := ⟨6, ![4, 3, 190, 190, 9, 3]⟩
abbrev S4x1x190x190x9x3 : Shape := ⟨6, ![4, 1, 190, 190, 9, 3]⟩
abbrev S4x4x190x190x9x6 : Shape := ⟨6, ![4, 4, 190, 190, 9, 6]⟩
abbrev S4x4x1x190x190 : Shape := ⟨5, ![4, 4, 1, 190, 190]⟩
abbrev S4x4x2x190x190 : Shape := ⟨5, ![4, 4, 2, 190, 190]⟩
abbrev S4x4x2x192x192 : Shape := ⟨5, ![4, 4, 2, 192, 192]⟩

abbrev nBuf : Space → Nat
  | .hbm => 136
  | .vmem => 0
  | .smem => 0
  | _ => 0

abbrev hbmTy0_0 (i : Nat) : BufTy := match i % 128 with
  | 0 => ⟨S4x4x3x192x192, .f32⟩
  | 1 => ⟨S_, .f32⟩
  | 2 => ⟨S_, .f32⟩
  | 3 => ⟨S_, .f32⟩
  | 4 => ⟨S4x4x3x190x190, .f32⟩
  | 5 => ⟨S4x4x3x190x190, .f32⟩
  | 6 => ⟨S4x4x3x190x190, .f32⟩
  | 7 => ⟨S4x4x3x190x190, .f32⟩
  | 8 => ⟨S4x4x3x190x190, .f32⟩
  | 9 => ⟨S4x4x3x190x190, .f32⟩
  | 10 => ⟨S4x4x3x190x190, .f32⟩
  | 11 => ⟨S4x4x3x190x190, .f32⟩
  | 12 => ⟨S4x4x3x190x190, .f32⟩
  | 13 => ⟨S4x4x3x1x190x190, .f32⟩
  | 14 => ⟨S4x4x3x1x190x190, .f32⟩
  | 15 => ⟨S4x4x3x1x190x190, .f32⟩
  | 16 => ⟨S4x4x3x1x190x190, .f32⟩
  | 17 => ⟨S4x4x3x1x190x190, .f32⟩
  | 18 => ⟨S4x4x3x1x190x190, .f32⟩
  | 19 => ⟨S4x4x3x1x190x190, .f32⟩
  | 20 => ⟨S4x4x3x1x190x190, .f32⟩
  | 21 => ⟨S4x4x3x1x190x190, .f32⟩
  | 22 => ⟨S4x4x3x9x190x190, .f32⟩
  | 23 => ⟨S4x4x190x190x9x3, .f32⟩
  | 24 => ⟨S4x4x190x190x9x3, .f32⟩
  | 25 => ⟨S_, .f32⟩
  | 26 => ⟨S4x4x190x190x9, .f32⟩
  | 27 => ⟨S4x4x190x190x9x1, .f32⟩
  | 28 => ⟨S4x4x190x190x1x9, .f32⟩
  | 29 => ⟨S4x4x190x190x9x9, .f32⟩
  | 30 => ⟨S4x4x190x190x9x9, .f32⟩
  | 31 => ⟨S4x4x190x190x9x9, .f32⟩
  | 32 => ⟨S4x4x190x190x9x9, .f32⟩
  | 33 => ⟨S_, .f32⟩
  | 34 => ⟨S4x4x190x190x9x9, .f32⟩
  | 35 => ⟨S4x4x190x190x9x9, .f32⟩
  | 36 => ⟨S4x4x190x190x9x9, .f32⟩
  | 37 => ⟨S_, .f32⟩
  | 38 => ⟨S4x4x190x190x9x9, .f32⟩
  | 39 => ⟨S4x4x190x190x9x9, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S4x4x190x190x9x9, .f32⟩
  | 56 => ⟨S4x4x190x190x9x9, .f32⟩
  | 57 => ⟨S4x4x190x190x9x9, .f32⟩
  | 58 => ⟨S4x4x190x190x9x9, .f32⟩
  | 59 => ⟨S_, .f32⟩
  | 60 => ⟨S4x4x190x190x9, .f32⟩
  | 61 => ⟨S4x4x190x190x9, .f32⟩
  | 62 => ⟨S_, .f32⟩
  | 63 => ⟨S_, .f32⟩
  | 64 => ⟨S_, .f32⟩
  | 65 => ⟨S4x4x190x190x9, .f32⟩
  | 66 => ⟨S4x4x190x190x9, .f32⟩
  | 67 => ⟨S4x4x190x190x9, .f32⟩
  | 68 => ⟨S4x4x190x190x9, .f32⟩
  | 69 => ⟨S_, .f32⟩
  | 70 => ⟨S4x4x190x190, .f32⟩
  | 71 => ⟨S_, .f32⟩
  | 72 => ⟨S4x4x190x190, .f32⟩
  | 73 => ⟨S4x4x190x190, .f32⟩
  | 74 => ⟨S4x4x190x190, .f32⟩
  | 75 => ⟨S4x3x190x190x9x3, .f32⟩
  | 76 => ⟨S4x1x190x190x9x3, .f32⟩
  | 77 => ⟨S4x4x190x190x9x3, .f32⟩
  | 78 => ⟨S4x4x190x190x9x6, .f32⟩
  | 79 => ⟨S4x4x190x190x9x6, .f32⟩
  | 80 => ⟨S_, .f32⟩
  | 81 => ⟨S4x4x190x190x9, .f32⟩
  | 82 => ⟨S4x4x190x190x9x1, .f32⟩
  | 83 => ⟨S4x4x190x190x1x9, .f32⟩
  | 84 => ⟨S4x4x190x190x9x9, .f32⟩
  | 85 => ⟨S4x4x190x190x9x9, .f32⟩
  | 86 => ⟨S4x4x190x190x9x9, .f32⟩
  | 87 => ⟨S4x4x190x190x9x9, .f32⟩
  | 88 => ⟨S_, .f32⟩
  | 89 => ⟨S4x4x190x190x9x9, .f32⟩
  | 90 => ⟨S4x4x190x190x9x9, .f32⟩
  | 91 => ⟨S4x4x190x190x9x9, .f32⟩
  | 92 => ⟨S_, .f32⟩
  | 93 => ⟨S4x4x190x190x9x9, .f32⟩
  | 94 => ⟨S4x4x190x190x9x9, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S4x4x190x190x9x9, .f32⟩
  | 111 => ⟨S4x4x190x190x9x9, .f32⟩
  | 112 => ⟨S4x4x190x190x9x9, .f32⟩
  | 113 => ⟨S4x4x190x190x9x9, .f32⟩
  | 114 => ⟨S_, .f32⟩
  | 115 => ⟨S4x4x190x190x9, .f32⟩
  | 116 => ⟨S4x4x190x190x9, .f32⟩
  | 117 => ⟨S_, .f32⟩
  | 118 => ⟨S_, .f32⟩
  | 119 => ⟨S_, .f32⟩
  | 120 => ⟨S4x4x190x190x9, .f32⟩
  | 121 => ⟨S4x4x190x190x9, .f32⟩
  | 122 => ⟨S4x4x190x190x9, .f32⟩
  | 123 => ⟨S4x4x190x190x9, .f32⟩
  | 124 => ⟨S_, .f32⟩
  | 125 => ⟨S4x4x190x190, .f32⟩
  | 126 => ⟨S_, .f32⟩
  | 127 => ⟨S4x4x190x190, .f32⟩
  | _ => ⟨S4x4x3x192x192, .f32⟩

abbrev hbmTy0_1 (i : Nat) : BufTy := match i % 128 with
  | 0 => ⟨S4x4x190x190, .f32⟩
  | 1 => ⟨S4x4x190x190, .f32⟩
  | 2 => ⟨S4x4x1x190x190, .f32⟩
  | 3 => ⟨S4x4x1x190x190, .f32⟩
  | 4 => ⟨S4x4x2x190x190, .f32⟩
  | 5 => ⟨S_, .i32⟩
  | 6 => ⟨S_, .f32⟩
  | 7 => ⟨S4x4x2x192x192, .f32⟩
  | _ => ⟨S4x4x3x192x192, .f32⟩

abbrev hbmTy (i : Nat) : BufTy := match i / 128 with
  | 0 => hbmTy0_0 i
  | 1 => hbmTy0_1 i
  | _ => ⟨S4x4x3x192x192, .f32⟩

abbrev bufTy : (tb : Table) → Fin (tcTables nBuf tb) → BufTy
  | .hbm, ⟨i, _⟩ => hbmTy i
  | _, _ => ⟨S4x4x3x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_2 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_3 : Ref sig .tc := ⟨.hbm, 37, rfl⟩
abbrev main_v32 : Ref sig .tc := ⟨.hbm, 38, rfl⟩
abbrev main_v33 : Ref sig .tc := ⟨.hbm, 39, rfl⟩
abbrev main_cst_4 : Ref sig .tc := ⟨.hbm, 40, rfl⟩
abbrev main_v34 : Ref sig .tc := ⟨.hbm, 41, rfl⟩
abbrev main_v35 : Ref sig .tc := ⟨.hbm, 42, rfl⟩
abbrev main_cst_5 : Ref sig .tc := ⟨.hbm, 43, rfl⟩
abbrev main_v36 : Ref sig .tc := ⟨.hbm, 44, rfl⟩
abbrev main_cst_6 : Ref sig .tc := ⟨.hbm, 45, rfl⟩
abbrev main_v37 : Ref sig .tc := ⟨.hbm, 46, rfl⟩
abbrev main_cst_7 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_8 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_9 : Ref sig .tc := ⟨.hbm, 59, rfl⟩
abbrev main_v48 : Ref sig .tc := ⟨.hbm, 60, rfl⟩
abbrev main_v49 : Ref sig .tc := ⟨.hbm, 61, rfl⟩
abbrev main_cst_10 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_11 : Ref sig .tc := ⟨.hbm, 69, rfl⟩
abbrev main_v56 : Ref sig .tc := ⟨.hbm, 70, rfl⟩
abbrev main_cst_12 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_13 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_14 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_15 : Ref sig .tc := ⟨.hbm, 92, rfl⟩
abbrev main_v75 : Ref sig .tc := ⟨.hbm, 93, rfl⟩
abbrev main_v76 : Ref sig .tc := ⟨.hbm, 94, rfl⟩
abbrev main_cst_16 : Ref sig .tc := ⟨.hbm, 95, rfl⟩
abbrev main_v77 : Ref sig .tc := ⟨.hbm, 96, rfl⟩
abbrev main_v78 : Ref sig .tc := ⟨.hbm, 97, rfl⟩
abbrev main_cst_17 : Ref sig .tc := ⟨.hbm, 98, rfl⟩
abbrev main_v79 : Ref sig .tc := ⟨.hbm, 99, rfl⟩
abbrev main_cst_18 : Ref sig .tc := ⟨.hbm, 100, rfl⟩
abbrev main_v80 : Ref sig .tc := ⟨.hbm, 101, rfl⟩
abbrev main_cst_19 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_20 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_21 : Ref sig .tc := ⟨.hbm, 114, rfl⟩
abbrev main_v91 : Ref sig .tc := ⟨.hbm, 115, rfl⟩
abbrev main_v92 : Ref sig .tc := ⟨.hbm, 116, rfl⟩
abbrev main_cst_22 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_23 : Ref sig .tc := ⟨.hbm, 124, rfl⟩
abbrev main_v99 : Ref sig .tc := ⟨.hbm, 125, rfl⟩
abbrev main_cst_24 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_c : Ref sig .tc := ⟨.hbm, 133, rfl⟩
abbrev main_call0_v0 : Ref sig .tc := ⟨.hbm, 134, rfl⟩
abbrev main_v106 : Ref sig .tc := ⟨.hbm, 135, rfl⟩

abbrev nD : Nat := 1
abbrev τ : Topo := Topo.v7x

variable {F : FTy → Type} [FloatOps F]
-- ==== Proof.Ops.lean ====
/- What one run of the kernel body computes, written down as operations on whole 192 x 192 blocks:
   the shifted copies of a block, the twelve maps of pairwise kernel values, the row sums, the product over
   the nine points of a patch, and the entropy read off that product. -/
module

public import proofs.«01_k».proof.Proof.Gen.KernelIdeal
public import Idealize.ShloMosaic.Lib.Pipeline.FrameBody

@[expose] public section

noncomputable section

namespace Cert.KernelIdeal.Ent

open Cert.KernelIdeal Cert.KernelIdeal.Gen
open Idealize.ShloMosaic Idealize.ShloMosaic.TcCoe

variable {F : FTy → Type} [FloatOps F] [Named F]

/-! ## A block moved around its edges -/

section Moves

variable {φ : FTy} (x : FVec F S192x192 φ)

/-- Every column one to the right, the last one first. -/
def right1 : FVec F S192x192 φ :=
  concatenate S192x192 1
    [⟨S192x1, extractStridedSlice S192x1 ![0, 191] x slices_S192x192_o0_191_S192x1⟩,
     ⟨S192x191, extractStridedSlice S192x191 ![0, 0] x slices_S192x192_o0_0_S192x191⟩]
    concatenates_S192x1_S192x191_S192x192_d1

/-- Every column two to the right. -/
def right2 : FVec F S192x192 φ :=
  concatenate S192x192 1
    [⟨S192x2, extractStridedSlice S192x2 ![0, 190] x slices_S192x192_o0_190_S192x2⟩,
     ⟨S192x190, extractStridedSlice S192x190 ![0, 0] x slices_S192x192_o0_0_S192x190⟩]
    concatenates_S192x2_S192x190_S192x192_d1

/-- Every column one to the left, the first one last. -/
def left1 : FVec F S192x192 φ :=
  concatenate S192x192 1
    [⟨S192x191, extractStridedSlice S192x191 ![0, 1] x slices_S192x192_o0_1_S192x191⟩,
     ⟨S192x1, extractStridedSlice S192x1 ![0, 0] x slices_S192x192_o0_0_S192x1⟩]
    concatenates_S192x191_S192x1_S192x192_d1

/-- Every column two to the left. -/
def left2 : FVec F S192x192 φ :=
  concatenate S192x192 1
    [⟨S192x190, extractStridedSlice S192x190 ![0, 2] x slices_S192x192_o0_2_S192x190⟩,
     ⟨S192x2, extractStridedSlice S192x2 ![0, 0] x slices_S192x192_o0_0_S192x2⟩]
    concatenates_S192x190_S192x2_S192x192_d1

/-- Every row one down, the last one first. -/
def down1 : FVec F S192x192 φ :=
  concatenate S192x192 0
    [⟨S1x192, extractStridedSlice S1x192 ![191, 0] x slices_S192x192_o191_0_S1x192⟩,
     ⟨S191x192, extractStridedSlice S191x192 ![0, 0] x slices_S192x192_o0_0_S191x192⟩]
    concatenates_S1x192_S191x192_S192x192_d0

/-- Every row two down. -/
def down2 : FVec F S192x192 φ :=
  concatenate S192x192 0
    [⟨S2x192, extractStridedSlice S2x192 ![190, 0] x slices_S192x192_o190_0_S2x192⟩,
     ⟨S190x192, extractStridedSlice S190x192 ![0, 0] x slices_S192x192_o0_0_S190x192⟩]
    concatenates_S2x192_S190x192_S192x192_d0

/-- Every row one up, the first one last. -/
def up1 : FVec F S192x192 φ :=
  concatenate S192x192 0
    [⟨S191x192, extractStridedSlice S191x192 ![1, 0] x slices_S192x192_o1_0_S191x192⟩,
     ⟨S1x192, extractStridedSlice S1x192 ![0, 0] x slices_S192x192_o0_0_S1x192⟩]
    concatenates_S191x192_S1x192_S192x192_d0

/-- Every row two up. -/
def up2 : FVec F S192x192 φ :=
  concatenate S192x192 0
    [⟨S190x192, extractStridedSlice S190x192 ![2, 0] x slices_S192x192_o2_0_S190x192⟩,
     ⟨S2x192, extractStridedSlice S2x192 ![0, 0] x slices_S192x192_o0_0_S2x192⟩]
    concatenates_S190x192_S2x192_S192x192_d0

end Moves

/-! ## The maps of kernel values -/

/-- One channel of a frame times the scale. -/
def scaled (x : Vec F S1x1x192x192 .f32) : FVec F S192x192 .f32 :=
  mulf (shapeCast S192x192 x shapeCasts_S1x1x192x192_S192x192)
    (broadcast S192x192 (Named.named κ "scale" 0x4107E439#32 : F .f32))

/-- Two to the minus squared distance, place by place, of two blocks of three channels each. -/
def gauss (a b c a' b' c' : FVec F S192x192 .f32) : FVec F S192x192 .bf16 :=
  truncf .bf16 (exp2 (subf (broadcast S192x192 (Scalar.ofBits .f32 0x00000000#32))
    (addf (addf (mulf (subf a a') (subf a a')) (mulf (subf b b') (subf b b'))) (mulf (subf c c') (subf c c')))))
    bitsLt_bf16_f32

/-- The twelve maps: `r i` compares each pixel with the one `i` columns on in its row; `s1 _` and `s2 _` compare
    the pixel one row or two rows up with the pixels of this row from two columns back to two columns on. -/
structure Maps (F : FTy → Type) where
  r1 : FVec F S192x192 .bf16
  r2 : FVec F S192x192 .bf16
  s1a : FVec F S192x192 .bf16
  s1b : FVec F S192x192 .bf16
  s1c : FVec F S192x192 .bf16
  s1d : FVec F S192x192 .bf16
  s1e : FVec F S192x192 .bf16
  s2a : FVec F S192x192 .bf16
  s2b : FVec F S192x192 .bf16
  s2c : FVec F S192x192 .bf16
  s2d : FVec F S192x192 .bf16
  s2e : FVec F S192x192 .bf16

/-- The twelve maps of a frame of three (scaled) channels. -/
def maps (x y z : FVec F S192x192 .f32) : Maps F where
  r1 := gauss x y z (left1 x) (left1 y) (left1 z)
  r2 := gauss x y z (left2 x) (left2 y) (left2 z)
  s1a := gauss (down1 x) (down1 y) (down1 z) (right2 x) (right2 y) (right2 z)
  s1b := gauss (down1 x) (down1 y) (down1 z) (right1 x) (right1 y) (right1 z)
  s1c := gauss (down1 x) (down1 y) (down1 z) x y z
  s1d := gauss (down1 x) (down1 y) (down1 z) (left1 x) (left1 y) (left1 z)
  s1e := gauss (down1 x) (down1 y) (down1 z) (left2 x) (left2 y) (left2 z)
  s2a := gauss (down2 x) (down2 y) (down2 z) (right2 x) (right2 y) (right2 z)
  s2b := gauss (down2 x) (down2 y) (down2 z) (right1 x) (right1 y) (right1 z)
  s2c := gauss (down2 x) (down2 y) (down2 z) x y z
  s2d := gauss (down2 x) (down2 y) (down2 z) (left1 x) (left1 y) (left1 z)
  s2e := gauss (down2 x) (down2 y) (down2 z) (left2 x) (left2 y) (left2 z)

/-- Two families of maps multiplied place by place. -/
def Maps.mul (T U : Maps F) : Maps F where
  r1 := mulf T.r1 U.r1
  r2 := mulf T.r2 U.r2
  s1a := mulf T.s1a U.s1a
  s1b := mulf T.s1b U.s1b
  s1c := mulf T.s1c U.s1c
  s1d := mulf T.s1d U.s1d
  s1e := mulf T.s1e U.s1e
  s2a := mulf T.s2a U.s2a
  s2b := mulf T.s2b U.s2b
  s2c := mulf T.s2c U.s2c
  s2d := mulf T.s2d U.s2d
  s2e := mulf T.s2e U.s2e

/-! ## The sums over a patch, and the entropy -/

/-- Three blocks added. -/
def add3 (a b c : FVec F S192x192 .bf16) : FVec F S192x192 .bf16 := addf (addf a b) c

/-- One everywhere. -/
def ones : FVec F S192x192 .bf16 := broadcast S192x192 (Scalar.ofBits .bf16 0x3F80#16)

/-- The rows of one column of a patch multiplied: `z` is the sum over the point's own row, `d1`, `d2` the sums over
    the rows one and two below, `u1`, `u2` over the rows one and two above. -/
def rows3 (z d1 d2 u1 u2 : FVec F S192x192 .bf16) : FVec F S190x192 .bf16 :=
  mulf (mulf
      (extractStridedSlice S190x192 ![0, 0] (add3 z d1 d2) slices_S192x192_o0_0_S190x192)
      (extractStridedSlice S190x192 ![1, 0] (addf (addf u1 z) d1) slices_S192x192_o1_0_S190x192))
    (extractStridedSlice S190x192 ![2, 0] (addf u2 (addf u1 z)) slices_S192x192_o2_0_S190x192)

/-- The factor of the first column of a patch. -/
def col0 (T : Maps F) : FVec F S190x192 .bf16 :=
  rows3 (add3 T.r1 T.r2 ones) (up1 (add3 T.s1c T.s1d T.s1e)) (up2 (add3 T.s2c T.s2d T.s2e))
    (add3 T.s1c (left1 T.s1b) (left2 T.s1a)) (add3 T.s2c (left1 T.s2b) (left2 T.s2a))

/-- The factor of the middle column. -/
def col1 (T : Maps F) : FVec F S190x192 .bf16 :=
  rows3 (add3 (right1 T.r1) T.r1 ones) (up1 (add3 T.s1b T.s1c T.s1d)) (up2 (add3 T.s2b T.s2c T.s2d))
    (add3 (right1 T.s1d) T.s1c (left1 T.s1b)) (add3 (right1 T.s2d) T.s2c (left1 T.s2b))

/-- The factor of the last column. -/
def col2 (T : Maps F) : FVec F S190x192 .bf16 :=
  rows3 (add3 (right2 T.r2) (right1 T.r1) ones) (up1 (add3 T.s1a T.s1b T.s1c)) (up2 (add3 T.s2a T.s2b T.s2c))
    (add3 (right2 T.s1e) (right1 T.s1d) T.s1c) (add3 (right2 T.s2e) (right1 T.s2d) T.s2c)

/-- The product over a patch's nine points of the point's kernel sum. -/
def product (T : Maps F) : FVec F S190x190 .bf16 :=
  mulf (mulf
      (extractStridedSlice S190x190 ![0, 0] (col0 T) slices_S190x192_o0_0_S190x190)
      (extractStridedSlice S190x190 ![0, 1] (col1 T) slices_S190x192_o0_1_S190x190))
    (extractStridedSlice S190x190 ![0, 2] (col2 T) slices_S190x192_o0_2_S190x190)

/-- The entropy of every patch: a constant less a ninth of the product's logarithm. -/
def entropy (k : F .f32) (T : Maps F) : FVec F S190x190 .f32 :=
  subf (broadcast S190x190 k)
    (mulf (mulf (log (extf .f32 (product T) bitsLt_bf16_f32))
        (broadcast S190x190 (Named.named κ "log2e" 0x3FB8AA3B#32 : F .f32)))
      (broadcast S190x190 (Named.named κ "ln2_9" 0x3D9DBAC0#32 : F .f32)))

/-! ## The block a body writes -/

/-- One channel of a frame's block. -/
abbrev chan0 : Rect S1x3x192x192 :=
  Rect.unit (s := S1x3x192x192) ![0, 0, 0, 0] S1x1x192x192.size inb_S1x3x192x192_S1x1x192x192_0_0_0_0
abbrev chan1 : Rect S1x3x192x192 :=
  Rect.unit (s := S1x3x192x192) ![0, 1, 0, 0] S1x1x192x192.size inb_S1x3x192x192_S1x1x192x192_0_1_0_0
abbrev chan2 : Rect S1x3x192x192 :=
  Rect.unit (s := S1x3x192x192) ![0, 2, 0, 0] S1x1x192x192.size inb_S1x3x192x192_S1x1x192x192_0_2_0_0

/-- The three scaled channels' maps of a frame's block. -/
def frameMaps (x : Vec F S1x3x192x192 .f32) : Maps F :=
  maps (scaled (View.ld x chan0)) (scaled (View.ld x chan1)) (scaled (View.ld x chan2))

/-- The whole output block, and the inside of each of its two planes. -/
abbrev whole : Rect S1x2x192x192 :=
  Rect.unit (s := S1x2x192x192) ![0, 0, 0, 0] S1x2x192x192.size inb_S1x2x192x192_S1x2x192x192_0_0_0_0
abbrev inside0 : Rect S1x2x192x192 :=
  Rect.unit (s := S1x2x192x192) ![0, 0, 1, 1] S1x1x190x190.size inb_S1x2x192x192_S1x1x190x190_0_0_1_1
abbrev inside1 : Rect S1x2x192x192 :=
  Rect.unit (s := S1x2x192x192) ![0, 1, 1, 1] S1x1x190x190.size inb_S1x2x192x192_S1x1x190x190_0_1_1_1

/-- Zeros over the whole block. -/
def zeros : Vec F S1x2x192x192 .f32 :=
  shapeCast S1x2x192x192 (broadcast S2x192x192 (Scalar.ofBits .f32 0x00000000#32 : F .f32))
    shapeCasts_S2x192x192_S1x2x192x192

/-- A plane's inside as the store takes it. -/
def plane (x : FVec F S190x190 .f32) : Vec F S1x1x190x190 .f32 :=
  shapeCast S1x1x190x190 x shapeCasts_S190x190_S1x1x190x190

/-- The marginal entropies of the frame `x`. -/
def marginal (x : Vec F S1x3x192x192 .f32) : FVec F S190x190 .f32 :=
  entropy (Named.named κ "c_m" 0xBFFA1356#32 : F .f32) (frameMaps x)

/-- The joint entropies of the frame `x` and the next one, `y`. -/
def joint (x y : Vec F S1x3x192x192 .f32) : FVec F S190x190 .f32 :=
  entropy (Named.named κ "c_j" 0xC0C35955#32 : F .f32) ((frameMaps x).mul (frameMaps y))

/-- The output block as its stores, the last one first. -/
def out (x y : Vec F S1x3x192x192 .f32) : Vec F S1x2x192x192 .f32 :=
  View.canon [⟨inside1, plane (joint x y)⟩, ⟨inside0, plane (marginal x)⟩, ⟨whole, zeros⟩]

end Cert.KernelIdeal.Ent

end
-- ==== Proof.Body.lean ====
/- The kernel body, run: it leaves the two input blocks as they were and the output block at `out` of them. -/
module

public import proofs.«01_k».proof.Proof.Ops
public import proofs.«01_k».proof.Proof.Gen.KernelIdeal.Skeleton
public import proofs.«01_k».proof.Proof.Gen.KernelIdeal.Frame

@[expose] public section

set_option maxRecDepth 16384

noncomputable section

namespace Cert.KernelIdeal.Ent

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The first store covers the whole block. -/
theorem covered (p1 p0 : Vec F S1x1x190x190 .f32) (z : Vec F S1x2x192x192 .f32) (y : S1x2x192x192.Idx) :
    ∃ pc ∈ ([⟨inside1, p1⟩, ⟨inside0, p0⟩, ⟨whole, z⟩] : List (View.Piece (Elt F) S1x2x192x192 .f32)), y ∈ pc.1.set := by
  obtain ⟨pc, hpc, hy⟩ := View.cover_of_tiled [(⟨whole, z⟩ : View.Piece (Elt F) S1x2x192x192 .f32)] S1x2x192x192.size (by rfl) y
  exact ⟨pc, List.mem_cons_of_mem _ (List.mem_cons_of_mem _ hpc), hy⟩

set_option maxHeartbeats 4000000 in
/-- The body on whole buffers: the inputs' at `x0`, `x1` and the output's at anything; it ends with the inputs'
    unchanged and the output's at `out x0 x1`. -/
theorem body_run (c : Dev nD) (E : Set ℕ) (i : grid0.Coords)
    (arg1 : Memref sig .tc .vmem S1x3x192x192 .f32) (harg1 : arg1.IsWhole)
    (arg2 : Memref sig .tc .vmem S1x3x192x192 .f32) (harg2 : arg2.IsWhole)
    (arg3 : Memref sig .tc .vmem S1x2x192x192 .f32) (harg3 : arg3.IsWhole)
    (x0 x1 : Vec F S1x3x192x192 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out x0 x1)) -∗ K ⟨⟩))
      ⊢ wp frame (wpE (defs₀ (F := F)) Variants.none c none) E
          (cc0__entropy_kernel i arg1 harg1 arg2 harg2 arg3 harg3) K := by
  simp only [cc0__entropy_kernel_eq_skeleton]
  unfold cc0__entropy_kernel_skel
  simp only [k0_part1_eq_skeleton, k0_part2_eq_skeleton, k0_part3_eq_skeleton, k0_part4_eq_skeleton,
    k0_part5_eq_skeleton, k0_part6_eq_skeleton, k0_part7_eq_skeleton, k0_part8_eq_skeleton,
    k0_part9_eq_skeleton, k0_part10_eq_skeleton, k0_part11_eq_skeleton, k0_part12_eq_skeleton,
    k0_part13_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0
    isplitr
    · ipureintro; rfl
    iexact H0
  isplitl [H1]
  · iexists f1
    isplitr
    · ipureintro; rfl
    iexact H1
  iexists _
  isplitr
  swap
  · iexact H2
  ipureintro
  refine (View.read_writes_eq_canon _ _ _ (covered _ _ _)).trans ?_
  rfl

end Cert.KernelIdeal.Ent

end
-- ==== Proof.Launch.lean ====
/- The whole launch of the kernel: what every buffer holds around each grid point, the run, and that the
   argument ends as it began and every counter at zero. -/
module

public import proofs.«01_k».proof.Proof.Body
public import Idealize.ShloMosaic.Lib.Pipeline.Value
public import Idealize.ShloMosaic.Lib.Claim

@[expose] public section

set_option maxRecDepth 16384

noncomputable section

namespace Cert.KernelIdeal.Ent

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The launch's data: the arrays as the region finds them; after point `t` the input buffers hold their blocks and
    the output buffer `out` of the two. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out (iblk m c 0 t) (iblk m c 1 t)
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]

theorem after_frame (c : Dev nD) (t : Fin cfg0.N) : (dats m 0 c).after 0 t = iblk m c 0 t := by dsimp only [dats]
theorem after_next (c : Dev nD) (t : Fin cfg0.N) : (dats m 0 c).after 1 t = iblk m c 1 t := by dsimp only [dats]
theorem after_out (c : Dev nD) (t : Fin cfg0.N) :
    (dats m 0 c).after 2 t = out (iblk m c 0 t) (iblk m c 1 t) := by dsimp only [dats]

theorem before_frame (c : Dev nD) (t : Fin cfg0.N) (d) : (dats m 0 c).before 0 t d = iblk m c 0 t :=
  before0_0_of m (dats m 0 c) (dats_A m c 0) (after_frame m c) t d
theorem before_next (c : Dev nD) (t : Fin cfg0.N) (d) : (dats m 0 c).before 1 t d = iblk m c 1 t :=
  before0_1_of m (dats m 0 c) (dats_A m c 1) (after_next m c) t d

/-- What the body holds when it starts at point `t`. -/
def atStart (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it holds when it ends. -/
def atEnd (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body takes the one to the other. -/
theorem body_step (c : Dev nD) (t : Fin cfg0.N) :
    atStart m c t ⊢ wp frame (wpE (defs₀ (F := F)) Variants.none c none) Set.univ (bodyAt0 t) (fun _ => atEnd m c t) := by
  unfold atStart atEnd bodyAt0
  simp only [before_frame, before_next]
  rw [show (dats m 0 c).Φ t.succ = (dats m 0 c).Φ t.castSucc from rfl,
    show (dats m 0 c).owesAt () t.succ = (dats m 0 c).owesAt () t.castSucc from rfl,
    after_frame, after_next, after_out]
  iintro ⟨HΦ, Ho, ⟨%d0, H0⟩, ⟨%d1, H1⟩, ⟨%d2, H2⟩⟩
  iapply (body_run c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_row (t : Fin cfg0.N) :
    defs₀ (F := F) .tc cfg0.body (cfg0.bodyArgs t (cfg0.slots t)) = bodyAt0 t := by
  unfold defs₀; rw [Defs.onTc_tc]

/-- So the body meets what the launch asks of it at every point. -/
theorem body_meets (c : Dev nD) : BodyObligation (dats (F := F) m 0 c) (defs₀ (F := F)) Variants.none () Set.univ := fun t => by
  rw [bigSep_W0, bigSep_W0, body_row]
  exact triple_restated (body_step m c t) rfl .rfl fun _ => .rfl

set_option backward.isDefEq.respectTransparency.types false in
set_option maxHeartbeats 800000 in
/-- The launch: every array ends at what the data say, every other buffer at what the host lines after the region
    leave in it, and every counter is zero. -/
theorem launch : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around_shared (Q' := _) cfgs (dats m) (0 : Fin 1) launch₀0 defs₀ Variants.none m ρ main
    (hbody := fun c => (body_meets m c).loose) (hq := fun _ _ _ => rfl) (howed := fun _ _ => rfl)
    (V₀ := V0 m) (opss := [hostOps1]) (hsub := sfx_sub) (hfresh := sfx_fresh) (hkeep := sfx_keeps)
    (hmain := hmain m Variants.none) (hA := dats_A m) (hΦ := fun _ _ => rfl)

/-- The argument ends as it began. -/
theorem argument_kept : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (dats_A m) ((θ_run defs _ _).mono (fun _ h => h.1) (launch m ρ))

/-- The frame of the launch: the argument as it began and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (argument_kept m ρ) ((θ_run defs _ _).mono (fun _ h => h.2) (launch m ρ))

/-- The result array after the host reshape. -/
def result (c : Dev nD) : Buf (Elt F) ((c : Thread nD τ).loc main_v2) :=
  shapeCast S4x4x2x192x192 (((dats m 0 c).arrAt 2 cfg0.N : Vec F S16x2x192x192 .f32)) shapeCasts_S16x2x192x192_S4x4x2x192x192

/-- What the host line after the region leaves in the result buffer. -/
theorem tail_result (c : Dev nD) :
    Pipeline.afterTail₀ cfgs (dats m) 0 (V0 m) [hostOps1] c main_v2 = result m c := by
  unfold Pipeline.afterTail₀ result
  simp only [List.flatten_cons, List.flatten_nil, List.append_nil, hostOps1]
  after_results_simp
  exact congrArg (fun z : Vec F S16x2x192x192 .f32 => shapeCast S4x4x2x192x192 z shapeCasts_S16x2x192x192_S4x4x2x192x192)
    ((dats m 0 c).withArrays_arrAt launch₀0.sharedIn (V0 m c) (dats_A m c) 2)

/-- The run, read at the result and the argument. -/
theorem result_run : θ_run defs (onTc (τ := τ) (main (F := F))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)) :=
  (θ_run defs _ _).mono (fun r h c =>
      ⟨((h.1.1 c).2 main_v2 (Pipeline.mem_restRefs_of main_v2 (by decide) (by decide))).trans (tail_result m c), h.2 c⟩)
    (θ_run_and (launch m ρ) (argument_kept m ρ))

/-- The array both input windows cut: the argument as sixteen frames. -/
def frames (c : Dev nD) : Vec F S16x3x192x192 .f32 :=
  shapeCast S16x3x192x192 (m ((c.tc : Thread nD τ).loc main_arg0) : Vec F S4x4x3x192x192 .f32)
    shapeCasts_S4x4x3x192x192_S16x3x192x192

/-- The host line before the region leaves exactly that. -/
theorem frames_eq (c : Dev nD) : V m c main_v0 = frames m c := by
  unfold V V0 frames
  simp only [hostOps0, List.flatten_cons, List.flatten_nil, List.append_nil]
  after_results_simp
  rfl

/-- The block the output window flushes after point `t`. -/
theorem flushed_out (c : Dev nD) (t : Fin cfg0.N) :
    (dats m 0 c).flushed 2 t = out (iblk m c 0 t) (iblk m c 1 t) := by
  show (cfg0.win 2).cut (grid0.coords t) ((dats m 0 c).after 2 t) = _
  rw [after_out]
  rfl

/-- Two points never write the same block. -/
theorem index_inj : ∀ t t' : Fin grid0.N, win0_2.index t = win0_2.index t' → t = t' := by decide +kernel

theorem disjoint_out : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (index_inj t t' h)

/-- Every point writes its block back. -/
theorem flushes : ∀ t : Fin cfg0.N, (cfg0.win 2).flush t = true := by decide +kernel

/-- So block `t` of the final array is what point `t` computed. -/
theorem block_out (c : Dev nD) (t : Fin cfg0.N) :
    ((cfg0.win 2).blk t).view.read (Elt F) ((dats m 0 c).arrAt 2 cfg0.N) = out (iblk m c 0 t) (iblk m c 1 t) :=
  ((dats m 0 c).read_blk_arrAt_eq_flushed 2 disjoint_out cfg0.N t t.isLt (flushes t)).trans (flushed_out m c t)

end Cert.KernelIdeal.Ent

end
-- ==== Proof.Spec.lean ====
/- The numbers both programs compute, over the reals: the kernel value of two points, and the entropy of nine points
   from their kernel values, in the reference's form and in the form with one logarithm of a product. -/
module

public import Mathlib.Analysis.SpecialFunctions.Pow.Real
public import Mathlib.Analysis.SpecialFunctions.Trigonometric.Inverse
public import Mathlib.Algebra.BigOperators.Fin
public import Mathlib.Tactic.LinearCombination
public import Mathlib.Tactic.FieldSimp

@[expose] public section

noncomputable section

namespace Cert.Patch

open Finset

/-- The Gaussian of two points of three channels, at bandwidth a tenth. -/
def gaussian (u v : Fin 3 → ℝ) : ℝ := Real.exp (-50 * ∑ k, (u k - v k) ^ 2)

theorem gaussian_pos (u v : Fin 3 → ℝ) : 0 < gaussian u v := Real.exp_pos _

theorem gaussian_symm (u v : Fin 3 → ℝ) : gaussian u v = gaussian v u := by
  unfold gaussian
  congr 2
  exact Finset.sum_congr rfl fun k _ => by ring

theorem gaussian_self (u : Fin 3 → ℝ) : gaussian u u = 1 := by simp [gaussian]

/-- Less the mean, over nine points, of the logarithm of the density estimate at the point: `K` the kernel values, `n`
    half the number of channels. -/
def entropy (n : ℝ) (K : Fin 9 → Fin 9 → ℝ) : ℝ :=
  -((∑ i, (Real.log (∑ j, K i j) - Real.log 9 - n * Real.log (2 * Real.pi * (1 / 10) * (1 / 10)))) / 9)

/-- The same with one logarithm, of the product of the nine sums. -/
theorem entropy_eq (n : ℝ) (K : Fin 9 → Fin 9 → ℝ) (hK : ∀ i j, 0 < K i j) :
    entropy n K = Real.log 9 + n * Real.log (1 / 50 * Real.pi)
      - Real.log (∏ i, ∑ j, K i j) * (Real.log 2)⁻¹ * (Real.log 2 * (1 / 9)) := by
  have h2 : Real.log 2 ≠ 0 := (Real.log_pos (by norm_num)).ne'
  have hs : ∀ i, (∑ j, K i j) ≠ 0 := fun i => (Finset.sum_pos (fun j _ => hK i j) ⟨0, Finset.mem_univ _⟩).ne'
  rw [Real.log_prod (fun i _ => hs i)]
  unfold entropy
  rw [show 2 * Real.pi * (1 / 10) * (1 / 10) = 1 / 50 * Real.pi by ring, Finset.sum_sub_distrib, Finset.sum_sub_distrib]
  simp only [Finset.sum_const, Finset.card_univ, Fintype.card_fin, nsmul_eq_mul]
  field_simp
  push_cast
  ring

/-- The constant of three channels. -/
theorem const_three : Real.log (9 * (1 / 50 * Real.pi * Real.sqrt (1 / 50 * Real.pi)))
    = Real.log 9 + 3 / 2 * Real.log (1 / 50 * Real.pi) := by
  have hq : 0 < 1 / 50 * Real.pi := by positivity
  rw [Real.log_mul (by norm_num) (by positivity), Real.log_mul hq.ne' (by positivity), Real.log_sqrt hq.le]
  ring

/-- The constant of six. -/
theorem const_six : Real.log (9 * (1 / 50 * Real.pi * (1 / 50 * Real.pi * (1 / 50 * Real.pi))))
    = Real.log 9 + 3 * Real.log (1 / 50 * Real.pi) := by
  have hq : 0 < 1 / 50 * Real.pi := by positivity
  rw [Real.log_mul (by norm_num) (by positivity), Real.log_mul hq.ne' (by positivity), Real.log_mul hq.ne' hq.ne']
  ring

/-- Two to the minus squared distance of scaled points is their Gaussian. -/
theorem two_rpow_scaled (u v : Fin 3 → ℝ) (s : ℝ) (hs : s ^ 2 = 50 * (Real.log 2)⁻¹) :
    Real.rpow 2 (0 - ((u 0 * s - v 0 * s) * (u 0 * s - v 0 * s) + (u 1 * s - v 1 * s) * (u 1 * s - v 1 * s)
      + (u 2 * s - v 2 * s) * (u 2 * s - v 2 * s))) = gaussian u v := by
  have h2 : Real.log 2 ≠ 0 := (Real.log_pos (by norm_num)).ne'
  unfold gaussian
  rw [Real.rpow_eq_pow, Real.rpow_def_of_pos (by norm_num), Fin.sum_univ_three]
  congr 1
  have : Real.log 2 * s ^ 2 = 50 := by rw [hs]; field_simp
  linear_combination (-((u 0 - v 0) ^ 2 + (u 1 - v 1) ^ 2 + (u 2 - v 2) ^ 2)) * this

/-- The scale's square. -/
theorem scale_sq : Real.sqrt (50 * (Real.log 2)⁻¹) ^ 2 = 50 * (Real.log 2)⁻¹ :=
  Real.sq_sqrt (mul_nonneg (by norm_num) (inv_nonneg.2 (Real.log_pos (by norm_num)).le))

end Cert.Patch

end
-- ==== Proof.Reads.lean ====
/- The kernel's blocks read place by place at the ideal reading: what moving a block around its edges, slicing it and
   the arithmetic do to the value in row `r` and column `c`. -/
module

public import proofs.«01_k».proof.Proof.Ops
public import proofs.«01_k».proof.Proof.Spec
public import Idealize.ShloMosaic.Lib.Pointwise

@[expose] public section

noncomputable section

namespace Cert.KernelIdeal.Ent

open Cert.KernelIdeal Cert.KernelIdeal.Gen
open Idealize.ShloMosaic Idealize.ShloMosaic.TcCoe

/-- The value in row `r` and column `c` is the real `v`. -/
def Has {n m : ℕ} (x : (⟨2, ![n, m]⟩ : Shape).Idx → EReal) (r c : ℕ) (v : ℝ) : Prop :=
  ∃ (hr : r < n) (hc : c < m), x (ix2 ⟨r, hr⟩ ⟨c, hc⟩) = (v : EReal)

section Moves

variable {φ : FTy} {x : FVec Ideal S192x192 φ} {r c : ℕ} {v : ℝ}

theorem Has.left1 (h : Has x r (c + 1) v) : Has (left1 x) r c v := by
  obtain ⟨hr, hc, e⟩ := h
  refine ⟨hr, by omega, ?_⟩
  pointwise [Ent.left1]
  rw [dif_pos (by omega), ← e]
  congr 3
  omega

theorem Has.left2 (h : Has x r (c + 2) v) : Has (left2 x) r c v := by
  obtain ⟨hr, hc, e⟩ := h
  refine ⟨hr, by omega, ?_⟩
  pointwise [Ent.left2]
  rw [dif_pos (by omega), ← e]
  congr 3
  omega

theorem Has.right1 (h : Has x r c v) (hc1 : c + 1 < 192) : Has (right1 x) r (c + 1) v := by
  obtain ⟨hr, hc, e⟩ := h
  refine ⟨hr, hc1, ?_⟩
  pointwise [Ent.right1]
  rw [dif_neg (by omega), ← e]
  congr 3

theorem Has.right2 (h : Has x r c v) (hc2 : c + 2 < 192) : Has (right2 x) r (c + 2) v := by
  obtain ⟨hr, hc, e⟩ := h
  refine ⟨hr, hc2, ?_⟩
  pointwise [Ent.right2]
  rw [dif_neg (by omega), ← e]
  congr 3

theorem Has.up1 (h : Has x (r + 1) c v) : Has (up1 x) r c v := by
  obtain ⟨hr, hc, e⟩ := h
  refine ⟨by omega, hc, ?_⟩
  pointwise [Ent.up1]
  rw [dif_pos (by omega), ← e]
  congr 3
  omega

theorem Has.up2 (h : Has x (r + 2) c v) : Has (up2 x) r c v := by
  obtain ⟨hr, hc, e⟩ := h
  refine ⟨by omega, hc, ?_⟩
  pointwise [Ent.up2]
  rw [dif_pos (by omega), ← e]
  congr 3
  omega

theorem Has.down1 (h : Has x r c v) (hr1 : r + 1 < 192) : Has (down1 x) (r + 1) c v := by
  obtain ⟨hr, hc, e⟩ := h
  refine ⟨hr1, hc, ?_⟩
  pointwise [Ent.down1]
  rw [dif_neg (by omega), ← e]
  congr 3

theorem Has.down2 (h : Has x r c v) (hr2 : r + 2 < 192) : Has (down2 x) (r + 2) c v := by
  obtain ⟨hr, hc, e⟩ := h
  refine ⟨hr2, hc, ?_⟩
  pointwise [Ent.down2]
  rw [dif_neg (by omega), ← e]
  congr 3

end Moves

section Arithmetic

variable {n m : ℕ} {φ : FTy} {x y : FVec Ideal (⟨2, ![n, m]⟩ : Shape) φ} {r c : ℕ} {v w : ℝ}

theorem Has.add (h : Has x r c v) (h' : Has y r c w) : Has (addf x y) r c (v + w) := by
  obtain ⟨hr, hc, e⟩ := h
  obtain ⟨_, _, e'⟩ := h'
  refine ⟨hr, hc, ?_⟩
  pointwise
  rw [e, e', ← EReal.coe_add]

theorem Has.sub (h : Has x r c v) (h' : Has y r c w) : Has (subf x y) r c (v - w) := by
  obtain ⟨hr, hc, e⟩ := h
  obtain ⟨_, _, e'⟩ := h'
  refine ⟨hr, hc, ?_⟩
  pointwise
  rw [e, e', ← EReal.coe_sub]

theorem Has.mul (h : Has x r c v) (h' : Has y r c w) : Has (mulf x y) r c (v * w) := by
  obtain ⟨hr, hc, e⟩ := h
  obtain ⟨_, _, e'⟩ := h'
  refine ⟨hr, hc, ?_⟩
  pointwise
  rw [e, e', ← EReal.coe_mul]

theorem Has.exp2 (h : Has x r c v) : Has (exp2 x) r c (Real.rpow 2 v) := by
  obtain ⟨hr, hc, e⟩ := h
  refine ⟨hr, hc, ?_⟩
  pointwise
  rw [e]
  rfl

theorem Has.log (h : Has x r c v) (hv : 0 < v) : Has (log x) r c (Real.log v) := by
  obtain ⟨hr, hc, e⟩ := h
  refine ⟨hr, hc, ?_⟩
  pointwise
  rw [e]
  show (if v ≤ 0 then (⊥ : EReal) else (Real.log v : EReal)) = _
  rw [if_neg (not_le.2 hv)]

theorem Has.const {n m r c : ℕ} {z : EReal} (hr : r < n) (hc : c < m) (hz : z = (v : EReal)) :
    Has (broadcast (⟨2, ![n, m]⟩ : Shape) z) r c v := ⟨hr, hc, hz⟩

theorem Has.slice {n' m' dr dc : ℕ} {hs : (⟨2, ![n, m]⟩ : Shape).Slices ![dr, dc] (⟨2, ![n', m']⟩ : Shape)}
    (h : Has x (r + dr) (c + dc) v) (hr : r < n') (hc : c < m') :
    Has (extractStridedSlice (⟨2, ![n', m']⟩ : Shape) ![dr, dc] x hs) r c v := by
  obtain ⟨hr', hc', e⟩ := h
  refine ⟨hr, hc, ?_⟩
  rw [← e]
  refine extractStridedSlice_apply _ _ _ _ _ fun a => ?_
  match a with
  | ⟨0, _⟩ => exact Nat.add_comm _ _
  | ⟨1, _⟩ => exact Nat.add_comm _ _

end Arithmetic

/-- The value and its place determine each other's reading. -/
theorem Has.congr {n m : ℕ} {x : (⟨2, ![n, m]⟩ : Shape).Idx → EReal} {r c : ℕ} {v w : ℝ} (h : Has x r c v) (e : v = w) :
    Has x r c w := e ▸ h

end Cert.KernelIdeal.Ent

end
-- ==== Proof.Maps.lean ====
/- The twelve maps of a frame at the ideal reading: which pair of pixels each place of each map compares. -/
module

public import proofs.«01_k».proof.Proof.Reads

@[expose] public section

noncomputable section

namespace Cert.KernelIdeal.Ent

open Cert.KernelIdeal Cert.KernelIdeal.Gen
open Idealize.ShloMosaic Idealize.ShloMosaic.TcCoe

/-- The maps hold the kernel values `K r c r' c'` of pixel `(r, c)` against pixel `(r', c')`. -/
structure Compares (T : Maps Ideal) (K : ℕ → ℕ → ℕ → ℕ → ℝ) : Prop where
  r1 : ∀ r c, r < 192 → c + 1 < 192 → Has T.r1 r c (K r c r (c + 1))
  r2 : ∀ r c, r < 192 → c + 2 < 192 → Has T.r2 r c (K r c r (c + 2))
  s1a : ∀ r c, r + 1 < 192 → c + 2 < 192 → Has T.s1a (r + 1) (c + 2) (K r (c + 2) (r + 1) c)
  s1b : ∀ r c, r + 1 < 192 → c + 1 < 192 → Has T.s1b (r + 1) (c + 1) (K r (c + 1) (r + 1) c)
  s1c : ∀ r c, r + 1 < 192 → c < 192 → Has T.s1c (r + 1) c (K r c (r + 1) c)
  s1d : ∀ r c, r + 1 < 192 → c + 1 < 192 → Has T.s1d (r + 1) c (K r c (r + 1) (c + 1))
  s1e : ∀ r c, r + 1 < 192 → c + 2 < 192 → Has T.s1e (r + 1) c (K r c (r + 1) (c + 2))
  s2a : ∀ r c, r + 2 < 192 → c + 2 < 192 → Has T.s2a (r + 2) (c + 2) (K r (c + 2) (r + 2) c)
  s2b : ∀ r c, r + 2 < 192 → c + 1 < 192 → Has T.s2b (r + 2) (c + 1) (K r (c + 1) (r + 2) c)
  s2c : ∀ r c, r + 2 < 192 → c < 192 → Has T.s2c (r + 2) c (K r c (r + 2) c)
  s2d : ∀ r c, r + 2 < 192 → c + 1 < 192 → Has T.s2d (r + 2) c (K r c (r + 2) (c + 1))
  s2e : ∀ r c, r + 2 < 192 → c + 2 < 192 → Has T.s2e (r + 2) c (K r c (r + 2) (c + 2))

/-- Maps multiplied hold the products. -/
theorem Compares.mul {T U : Maps Ideal} {K L : ℕ → ℕ → ℕ → ℕ → ℝ} (hT : Compares T K) (hU : Compares U L) :
    Compares (T.mul U) (fun r c r' c' => K r c r' c' * L r c r' c') where
  r1 r c hr hc := (hT.r1 r c hr hc).mul (hU.r1 r c hr hc)
  r2 r c hr hc := (hT.r2 r c hr hc).mul (hU.r2 r c hr hc)
  s1a r c hr hc := (hT.s1a r c hr hc).mul (hU.s1a r c hr hc)
  s1b r c hr hc := (hT.s1b r c hr hc).mul (hU.s1b r c hr hc)
  s1c r c hr hc := (hT.s1c r c hr hc).mul (hU.s1c r c hr hc)
  s1d r c hr hc := (hT.s1d r c hr hc).mul (hU.s1d r c hr hc)
  s1e r c hr hc := (hT.s1e r c hr hc).mul (hU.s1e r c hr hc)
  s2a r c hr hc := (hT.s2a r c hr hc).mul (hU.s2a r c hr hc)
  s2b r c hr hc := (hT.s2b r c hr hc).mul (hU.s2b r c hr hc)
  s2c r c hr hc := (hT.s2c r c hr hc).mul (hU.s2c r c hr hc)
  s2d r c hr hc := (hT.s2d r c hr hc).mul (hU.s2d r c hr hc)
  s2e r c hr hc := (hT.s2e r c hr hc).mul (hU.s2e r c hr hc)

/-- The scale. -/
abbrev scale : ℝ := Real.sqrt (50 * (Real.log 2)⁻¹)

/-- Where the three channels hold two pixels' scaled values, the map holds their Gaussian. -/
theorem gauss_at {a b c a' b' c' : FVec Ideal S192x192 .f32} {i j : ℕ} {u v : Fin 3 → ℝ}
    (h0 : Has a i j (u 0 * scale)) (h1 : Has b i j (u 1 * scale)) (h2 : Has c i j (u 2 * scale))
    (h0' : Has a' i j (v 0 * scale)) (h1' : Has b' i j (v 1 * scale)) (h2' : Has c' i j (v 2 * scale)) :
    Has (gauss a b c a' b' c') i j (Cert.Patch.gaussian u v) := by
  have hz : Has (broadcast S192x192 (Scalar.ofBits (F := Ideal) .f32 0x00000000#32)) i j 0 := by
    obtain ⟨hi, hj, _⟩ := h0
    refine Has.const hi hj ?_
    show Ideal.ofBits .f32 0x00000000#32 = _
    simp [Ideal.ofBits, Ideal.ieee]
  have h := (hz.sub ((((h0.sub h0').mul (h0.sub h0')).add ((h1.sub h1').mul (h1.sub h1'))).add
    ((h2.sub h2').mul (h2.sub h2')))).exp2
  rw [Cert.Patch.two_rpow_scaled u v scale Cert.Patch.scale_sq] at h
  exact h

section Frame

variable {x : Vec Ideal S1x3x192x192 .f32} {p : ℕ → ℕ → Fin 3 → ℝ}

/-- The frame's pixels, and the three scaled channels. -/
def Pixels (x : Vec Ideal S1x3x192x192 .f32) (p : ℕ → ℕ → Fin 3 → ℝ) : Prop :=
  ∀ (k : Fin 3) (r c : ℕ) (hr : r < 192) (hc : c < 192), x (ix4 0 k ⟨r, hr⟩ ⟨c, hc⟩) = (p r c k : EReal)

theorem scaled_at (y : Vec Ideal S1x1x192x192 .f32) {r c : ℕ} {v : ℝ} (hr : r < 192) (hc : c < 192)
    (hy : y (ix4 0 0 ⟨r, hr⟩ ⟨c, hc⟩) = (v : EReal)) : Has (scaled y) r c (v * scale) := by
  refine ⟨hr, hc, ?_⟩
  pointwise [scaled]
  rw [hy, EReal.coe_mul]
  rfl

theorem chan0_at (hx : Pixels x p) (r c : ℕ) (hr : r < 192) (hc : c < 192) :
    Has (scaled (View.ld x chan0)) r c (p r c 0 * scale) := by
  refine scaled_at _ hr hc ?_
  pointwise
  exact hx 0 r c hr hc

theorem chan1_at (hx : Pixels x p) (r c : ℕ) (hr : r < 192) (hc : c < 192) :
    Has (scaled (View.ld x chan1)) r c (p r c 1 * scale) := by
  refine scaled_at _ hr hc ?_
  pointwise
  exact hx 1 r c hr hc

theorem chan2_at (hx : Pixels x p) (r c : ℕ) (hr : r < 192) (hc : c < 192) :
    Has (scaled (View.ld x chan2)) r c (p r c 2 * scale) := by
  refine scaled_at _ hr hc ?_
  pointwise
  exact hx 2 r c hr hc

/-- The maps of a frame compare its pixels. -/
theorem frameMaps_at (hx : Pixels x p) :
    Compares (frameMaps x) (fun r c r' c' => Cert.Patch.gaussian (p r c) (p r' c')) := by
  have h0 := chan0_at hx
  have h1 := chan1_at hx
  have h2 := chan2_at hx
  constructor <;> intro r c hr hc
  · exact gauss_at (h0 r c hr (by omega)) (h1 r c hr (by omega)) (h2 r c hr (by omega))
      (h0 r _ hr hc).left1 (h1 r _ hr hc).left1 (h2 r _ hr hc).left1
  · exact gauss_at (h0 r c hr (by omega)) (h1 r c hr (by omega)) (h2 r c hr (by omega))
      (h0 r _ hr hc).left2 (h1 r _ hr hc).left2 (h2 r _ hr hc).left2
  · exact gauss_at ((h0 r _ (by omega) hc).down1 hr) ((h1 r _ (by omega) hc).down1 hr) ((h2 r _ (by omega) hc).down1 hr)
      ((h0 _ c hr (by omega)).right2 hc) ((h1 _ c hr (by omega)).right2 hc) ((h2 _ c hr (by omega)).right2 hc)
  · exact gauss_at ((h0 r _ (by omega) hc).down1 hr) ((h1 r _ (by omega) hc).down1 hr) ((h2 r _ (by omega) hc).down1 hr)
      ((h0 _ c hr (by omega)).right1 hc) ((h1 _ c hr (by omega)).right1 hc) ((h2 _ c hr (by omega)).right1 hc)
  · exact gauss_at ((h0 r c (by omega) hc).down1 hr) ((h1 r c (by omega) hc).down1 hr) ((h2 r c (by omega) hc).down1 hr)
      (h0 _ c hr hc) (h1 _ c hr hc) (h2 _ c hr hc)
  · exact gauss_at ((h0 r c (by omega) (by omega)).down1 hr) ((h1 r c (by omega) (by omega)).down1 hr)
      ((h2 r c (by omega) (by omega)).down1 hr) (h0 _ _ hr hc).left1 (h1 _ _ hr hc).left1 (h2 _ _ hr hc).left1
  · exact gauss_at ((h0 r c (by omega) (by omega)).down1 hr) ((h1 r c (by omega) (by omega)).down1 hr)
      ((h2 r c (by omega) (by omega)).down1 hr) (h0 _ _ hr hc).left2 (h1 _ _ hr hc).left2 (h2 _ _ hr hc).left2
  · exact gauss_at ((h0 r _ (by omega) hc).down2 hr) ((h1 r _ (by omega) hc).down2 hr) ((h2 r _ (by omega) hc).down2 hr)
      ((h0 _ c hr (by omega)).right2 hc) ((h1 _ c hr (by omega)).right2 hc) ((h2 _ c hr (by omega)).right2 hc)
  · exact gauss_at ((h0 r _ (by omega) hc).down2 hr) ((h1 r _ (by omega) hc).down2 hr) ((h2 r _ (by omega) hc).down2 hr)
      ((h0 _ c hr (by omega)).right1 hc) ((h1 _ c hr (by omega)).right1 hc) ((h2 _ c hr (by omega)).right1 hc)
  · exact gauss_at ((h0 r c (by omega) hc).down2 hr) ((h1 r c (by omega) hc).down2 hr) ((h2 r c (by omega) hc).down2 hr)
      (h0 _ c hr hc) (h1 _ c hr hc) (h2 _ c hr hc)
  · exact gauss_at ((h0 r c (by omega) (by omega)).down2 hr) ((h1 r c (by omega) (by omega)).down2 hr)
      ((h2 r c (by omega) (by omega)).down2 hr) (h0 _ _ hr hc).left1 (h1 _ _ hr hc).left1 (h2 _ _ hr hc).left1
  · exact gauss_at ((h0 r c (by omega) (by omega)).down2 hr) ((h1 r c (by omega) (by omega)).down2 hr)
      ((h2 r c (by omega) (by omega)).down2 hr) (h0 _ _ hr hc).left2 (h1 _ _ hr hc).left2 (h2 _ _ hr hc).left2

end Frame

end Cert.KernelIdeal.Ent

end
-- ==== Proof.Product.lean ====
/- The product over a patch of its nine kernel sums, at the ideal reading, and the entropy taken from it. -/
module

public import proofs.«01_k».proof.Proof.Maps

@[expose] public section

noncomputable section

namespace Cert.KernelIdeal.Ent

open Cert.KernelIdeal Cert.KernelIdeal.Gen
open Idealize.ShloMosaic Idealize.ShloMosaic.TcCoe

theorem ones_at {r c : ℕ} (hr : r < 192) (hc : c < 192) : Has (ones (F := Ideal)) r c 1 := by
  refine Has.const hr hc ?_
  show Ideal.ofBits .bf16 0x3F80#16 = _
  simp [Ideal.ofBits, Ideal.ieee]
  rw [← EReal.coe_mul]; norm_num

/-- Three rows' sums multiplied: `z` in all three, `d1` and `d2` above the rows they reach down to, `u1` and `u2`
    below the rows they reach up to. -/
theorem rows3_at {z d1 d2 u1 u2 : FVec Ideal S192x192 .bf16} {r c : ℕ} {z0 z1 z2 a0 a1 b c1 c2 e s0 s1 s2 : ℝ}
    (hr : r < 190) (hc : c < 192)
    (hz0 : Has z r c z0) (hz1 : Has z (r + 1) c z1) (hz2 : Has z (r + 2) c z2)
    (hd0 : Has d1 r c a0) (hd1 : Has d1 (r + 1) c a1) (hb : Has d2 r c b)
    (hu1 : Has u1 (r + 1) c c1) (hu2 : Has u1 (r + 2) c c2) (he : Has u2 (r + 2) c e)
    (e0 : z0 + a0 + b = s0) (e1 : c1 + z1 + a1 = s1) (e2 : e + (c2 + z2) = s2) :
    Has (rows3 z d1 d2 u1 u2) r c (s0 * s1 * s2) := by
  subst e0 e1 e2
  exact ((((hz0.add hd0).add hb).slice (dr := 0) (dc := 0) hr hc).mul
    (((hu1.add hz1).add hd1).slice (dr := 1) (dc := 0) hr hc)).mul
    ((he.add (hu2.add hz2)).slice (dr := 2) (dc := 0) hr hc)

/-- The kernel sum of the pixel `(a, b)` over the patch whose corner is `(r, c)`. -/
def patchSum (K : ℕ → ℕ → ℕ → ℕ → ℝ) (r c a b : ℕ) : ℝ :=
  K a b r c + K a b r (c + 1) + K a b r (c + 2)
    + (K a b (r + 1) c + K a b (r + 1) (c + 1) + K a b (r + 1) (c + 2))
    + (K a b (r + 2) c + K a b (r + 2) (c + 1) + K a b (r + 2) (c + 2))

section Product

variable {T : Maps Ideal} {K : ℕ → ℕ → ℕ → ℕ → ℝ}

/-- The first column's factor. -/
theorem col0_at (h : Compares T K) (hs : ∀ a b a' b', K a b a' b' = K a' b' a b) (hd : ∀ a b, K a b a b = 1)
    {r c : ℕ} (hr : r < 190) (hc : c + 2 < 192) :
    Has (col0 T) r c (patchSum K r c r c * patchSum K r c (r + 1) c * patchSum K r c (r + 2) c) := by
  have z := fun i (hi : i < 192) => ((h.r1 i c hi (by omega)).add (h.r2 i c hi hc)).add (ones_at hi (by omega))
  have d1 := fun i (hi : i + 1 < 192) =>
    (((h.s1c i c hi (by omega)).add (h.s1d i c hi (by omega))).add (h.s1e i c hi hc)).up1
  have d2 := fun i (hi : i + 2 < 192) =>
    (((h.s2c i c hi (by omega)).add (h.s2d i c hi (by omega))).add (h.s2e i c hi hc)).up2
  have u1 := fun i (hi : i + 1 < 192) =>
    ((h.s1c i c hi (by omega)).add (h.s1b i c hi (by omega)).left1).add (h.s1a i c hi hc).left2
  have u2 := fun i (hi : i + 2 < 192) =>
    ((h.s2c i c hi (by omega)).add (h.s2b i c hi (by omega)).left1).add (h.s2a i c hi hc).left2
  refine rows3_at hr (by omega) (z r (by omega)) (z (r + 1) (by omega)) (z (r + 2) (by omega))
    (d1 r (by omega)) (d1 (r + 1) (by omega)) (d2 r (by omega)) (u1 r (by omega)) (u1 (r + 1) (by omega)) (u2 r (by omega))
    ?_ ?_ ?_ <;> unfold patchSum <;> simp only [add_assoc, Nat.reduceAdd] <;> simp only [← add_assoc]
  · linear_combination -(hd r c)
  · linear_combination -(hd (r + 1) c) - hs (r + 1) c r c - hs (r + 1) c r (c + 1) - hs (r + 1) c r (c + 2)
  · linear_combination -(hd (r + 2) c) - hs (r + 2) c r c - hs (r + 2) c r (c + 1) - hs (r + 2) c r (c + 2)
        - hs (r + 2) c (r + 1) c - hs (r + 2) c (r + 1) (c + 1) - hs (r + 2) c (r + 1) (c + 2)

/-- The middle column's factor. -/
theorem col1_at (h : Compares T K) (hs : ∀ a b a' b', K a b a' b' = K a' b' a b) (hd : ∀ a b, K a b a b = 1)
    {r c : ℕ} (hr : r < 190) (hc : c + 2 < 192) :
    Has (col1 T) r (c + 1) (patchSum K r c r (c + 1) * patchSum K r c (r + 1) (c + 1) * patchSum K r c (r + 2) (c + 1)) := by
  have z := fun i (hi : i < 192) => (((h.r1 i c hi (by omega)).right1 (by omega)).add (h.r1 i (c + 1) hi hc)).add (ones_at hi (by omega))
  have d1 := fun i (hi : i + 1 < 192) =>
    (((h.s1b i c hi (by omega)).add (h.s1c i (c + 1) hi (by omega))).add (h.s1d i (c + 1) hi hc)).up1
  have d2 := fun i (hi : i + 2 < 192) =>
    (((h.s2b i c hi (by omega)).add (h.s2c i (c + 1) hi (by omega))).add (h.s2d i (c + 1) hi hc)).up2
  have u1 := fun i (hi : i + 1 < 192) =>
    (((h.s1d i c hi (by omega)).right1 (by omega)).add (h.s1c i (c + 1) hi (by omega))).add (h.s1b i (c + 1) hi hc).left1
  have u2 := fun i (hi : i + 2 < 192) =>
    (((h.s2d i c hi (by omega)).right1 (by omega)).add (h.s2c i (c + 1) hi (by omega))).add (h.s2b i (c + 1) hi hc).left1
  refine rows3_at hr (by omega) (z r (by omega)) (z (r + 1) (by omega)) (z (r + 2) (by omega))
    (d1 r (by omega)) (d1 (r + 1) (by omega)) (d2 r (by omega)) (u1 r (by omega)) (u1 (r + 1) (by omega)) (u2 r (by omega))
    ?_ ?_ ?_ <;> unfold patchSum <;> simp only [add_assoc, Nat.reduceAdd] <;> simp only [← add_assoc]
  · linear_combination -(hd r (c + 1)) - hs r (c + 1) r c
  · linear_combination -(hd (r + 1) (c + 1)) - hs (r + 1) (c + 1) r c - hs (r + 1) (c + 1) r (c + 1)
        - hs (r + 1) (c + 1) r (c + 2) - hs (r + 1) (c + 1) (r + 1) c
  · linear_combination -(hd (r + 2) (c + 1)) - hs (r + 2) (c + 1) r c - hs (r + 2) (c + 1) r (c + 1)
        - hs (r + 2) (c + 1) r (c + 2) - hs (r + 2) (c + 1) (r + 1) c - hs (r + 2) (c + 1) (r + 1) (c + 1)
        - hs (r + 2) (c + 1) (r + 1) (c + 2) - hs (r + 2) (c + 1) (r + 2) c

/-- The last column's factor. -/
theorem col2_at (h : Compares T K) (hs : ∀ a b a' b', K a b a' b' = K a' b' a b) (hd : ∀ a b, K a b a b = 1)
    {r c : ℕ} (hr : r < 190) (hc : c + 2 < 192) :
    Has (col2 T) r (c + 2) (patchSum K r c r (c + 2) * patchSum K r c (r + 1) (c + 2) * patchSum K r c (r + 2) (c + 2)) := by
  have z := fun i (hi : i < 192) => (((h.r2 i c hi hc).right2 hc).add ((h.r1 i (c + 1) hi hc).right1 hc)).add (ones_at hi hc)
  have d1 := fun i (hi : i + 1 < 192) =>
    (((h.s1a i c hi hc).add (h.s1b i (c + 1) hi hc)).add (h.s1c i (c + 2) hi hc)).up1
  have d2 := fun i (hi : i + 2 < 192) =>
    (((h.s2a i c hi hc).add (h.s2b i (c + 1) hi hc)).add (h.s2c i (c + 2) hi hc)).up2
  have u1 := fun i (hi : i + 1 < 192) =>
    (((h.s1e i c hi hc).right2 hc).add ((h.s1d i (c + 1) hi hc).right1 hc)).add (h.s1c i (c + 2) hi hc)
  have u2 := fun i (hi : i + 2 < 192) =>
    (((h.s2e i c hi hc).right2 hc).add ((h.s2d i (c + 1) hi hc).right1 hc)).add (h.s2c i (c + 2) hi hc)
  refine rows3_at hr (by omega) (z r (by omega)) (z (r + 1) (by omega)) (z (r + 2) (by omega))
    (d1 r (by omega)) (d1 (r + 1) (by omega)) (d2 r (by omega)) (u1 r (by omega)) (u1 (r + 1) (by omega)) (u2 r (by omega))
    ?_ ?_ ?_ <;> unfold patchSum <;> simp only [add_assoc, Nat.reduceAdd] <;> simp only [← add_assoc]
  · linear_combination -(hd r (c + 2)) - hs r (c + 2) r c - hs r (c + 2) r (c + 1)
  · linear_combination -(hd (r + 1) (c + 2)) - hs (r + 1) (c + 2) r c - hs (r + 1) (c + 2) r (c + 1)
        - hs (r + 1) (c + 2) r (c + 2) - hs (r + 1) (c + 2) (r + 1) c - hs (r + 1) (c + 2) (r + 1) (c + 1)
  · linear_combination -(hd (r + 2) (c + 2)) - hs (r + 2) (c + 2) r c - hs (r + 2) (c + 2) r (c + 1)
        - hs (r + 2) (c + 2) r (c + 2) - hs (r + 2) (c + 2) (r + 1) c - hs (r + 2) (c + 2) (r + 1) (c + 1)
        - hs (r + 2) (c + 2) (r + 1) (c + 2) - hs (r + 2) (c + 2) (r + 2) c - hs (r + 2) (c + 2) (r + 2) (c + 1)

/-- The product over the patch whose corner is `(r, c)`. -/
theorem product_at (h : Compares T K) (hs : ∀ a b a' b', K a b a' b' = K a' b' a b) (hd : ∀ a b, K a b a b = 1)
    {r c : ℕ} (hr : r < 190) (hc : c < 190) :
    Has (product T) r c (∏ i : Fin 9, ∑ j : Fin 9, K (r + i.val / 3) (c + i.val % 3) (r + j.val / 3) (c + j.val % 3)) := by
  have h9 : ∀ a b, ∑ j : Fin 9, K a b (r + j.val / 3) (c + j.val % 3) = patchSum K r c a b := by
    intro a b
    simp only [Fin.sum_univ_succ, Fin.sum_univ_zero]
    unfold patchSum
    show K a b r c + (K a b r (c + 1) + (K a b r (c + 2) + (K a b (r + 1) c + (K a b (r + 1) (c + 1) + (K a b (r + 1) (c + 2)
      + (K a b (r + 2) c + (K a b (r + 2) (c + 1) + (K a b (r + 2) (c + 2) + 0)))))))) = _
    simp only [add_zero, add_assoc]
  refine (((col0_at h hs hd hr (by omega)).slice (dr := 0) (dc := 0) hr hc).mul
    ((col1_at h hs hd hr (by omega)).slice (dr := 0) (dc := 1) hr hc)).mul
    ((col2_at h hs hd hr (by omega)).slice (dr := 0) (dc := 2) hr hc) |>.congr ?_
  simp only [h9]
  simp only [Fin.prod_univ_succ, Fin.prod_univ_zero]
  generalize patchSum K r c = S
  have h : ∀ e0 e1 e2 e3 e4 e5 e6 e7 e8 : ℝ, e0 * e3 * e6 * (e1 * e4 * e7) * (e2 * e5 * e8)
      = e0 * (e1 * (e2 * (e3 * (e4 * (e5 * (e6 * (e7 * (e8 * 1)))))))) := by intros; ring
  exact h _ _ _ _ _ _ _ _ _

/-- The entropy of the patch, the constant being the logarithm of nine and the normaliser. -/
theorem entropy_at (h : Compares T K) (hs : ∀ a b a' b', K a b a' b' = K a' b' a b) (hd : ∀ a b, K a b a b = 1)
    (hp : ∀ a b a' b', 0 < K a b a' b') (k : EReal) (n : ℝ)
    (hk : k = ((Real.log 9 + n * Real.log (1 / 50 * Real.pi) : ℝ) : EReal))
    {r c : ℕ} (hr : r < 190) (hc : c < 190) :
    Has (entropy (F := Ideal) k T) r c
      (Cert.Patch.entropy n fun i j => K (r + i.val / 3) (c + i.val % 3) (r + j.val / 3) (c + j.val % 3)) := by
  rw [Cert.Patch.entropy_eq n _ fun i j => hp _ _ _ _]
  have hpos : 0 < ∏ i : Fin 9, ∑ j : Fin 9, K (r + i.val / 3) (c + i.val % 3) (r + j.val / 3) (c + j.val % 3) :=
    Finset.prod_pos fun i _ => Finset.sum_pos (fun j _ => hp _ _ _ _) ⟨0, Finset.mem_univ _⟩
  have hq : Has (extf .f32 (product T) bitsLt_bf16_f32) r c _ := product_at h hs hd hr hc
  exact (Has.const hr hc hk).sub (((hq.log hpos).mul (Has.const hr hc rfl)).mul (Has.const hr hc rfl))

end Product

section Kernel

variable {x y : Vec Ideal S1x3x192x192 .f32} {p q : ℕ → ℕ → Fin 3 → ℝ} {r c : ℕ}

/-- The marginal entropy of a frame's patch. -/
theorem marginal_at (hx : Pixels x p) (hr : r < 190) (hc : c < 190) :
    Has (marginal x) r c (Cert.Patch.entropy (3 / 2) fun i j =>
      Cert.Patch.gaussian (p (r + i.val / 3) (c + i.val % 3)) (p (r + j.val / 3) (c + j.val % 3))) :=
  entropy_at (frameMaps_at hx) (fun _ _ _ _ => Cert.Patch.gaussian_symm _ _) (fun _ _ => Cert.Patch.gaussian_self _)
    (fun _ _ _ _ => Cert.Patch.gaussian_pos _ _) _ _
    (congrArg Real.toEReal Cert.Patch.const_three) hr hc

/-- The joint entropy of two frames' patches. -/
theorem joint_at (hx : Pixels x p) (hy : Pixels y q) (hr : r < 190) (hc : c < 190) :
    Has (joint x y) r c (Cert.Patch.entropy 3 fun i j =>
      Cert.Patch.gaussian (p (r + i.val / 3) (c + i.val % 3)) (p (r + j.val / 3) (c + j.val % 3))
        * Cert.Patch.gaussian (q (r + i.val / 3) (c + i.val % 3)) (q (r + j.val / 3) (c + j.val % 3))) :=
  entropy_at ((frameMaps_at hx).mul (frameMaps_at hy))
    (fun a b a' b' => by
      show Cert.Patch.gaussian _ _ * Cert.Patch.gaussian _ _ = _
      rw [Cert.Patch.gaussian_symm (p a b), Cert.Patch.gaussian_symm (q a b)])
    (fun a b => by
      show Cert.Patch.gaussian _ _ * Cert.Patch.gaussian _ _ = _
      rw [Cert.Patch.gaussian_self, Cert.Patch.gaussian_self, one_mul])
    (fun _ _ _ _ => mul_pos (Cert.Patch.gaussian_pos _ _) (Cert.Patch.gaussian_pos _ _)) _ _
    (congrArg Real.toEReal Cert.Patch.const_six) hr hc

end Kernel

end Cert.KernelIdeal.Ent

end
-- ==== Proof.Block.lean ====
/- The block one run of the body leaves, read place by place: the entropies inside each plane, zero on the rim. -/
module

public import proofs.«01_k».proof.Proof.Product

@[expose] public section

noncomputable section

namespace Cert.KernelIdeal.Ent

open Cert.KernelIdeal Cert.KernelIdeal.Gen
open Idealize.ShloMosaic Idealize.ShloMosaic.TcCoe

theorem plane_at (z : FVec Ideal S190x190 .f32) (r c : Fin 190) : plane z (ix4 0 0 r c) = z (ix2 r c) := by
  pointwise [plane]

theorem zeros_at (i : Fin 2) (r c : Fin 192) : zeros (F := Ideal) (ix4 0 i r c) = 0 := by
  pointwise [zeros]

/-- A place inside plane 1. -/
theorem emb_inside1 (r c : Fin 190) :
    inside1.emb (ix4 0 0 r c) = ix4 0 1 ⟨r.val + 1, by omega⟩ ⟨c.val + 1, by omega⟩ := by
  funext a
  match a with
  | ⟨0, _⟩ => rfl
  | ⟨1, _⟩ => rfl
  | ⟨2, _⟩ => exact Fin.ext (show 1 + 1 * r.val = r.val + 1 by omega)
  | ⟨3, _⟩ => exact Fin.ext (show 1 + 1 * c.val = c.val + 1 by omega)

/-- A place inside plane 0. -/
theorem emb_inside0 (r c : Fin 190) :
    inside0.emb (ix4 0 0 r c) = ix4 0 0 ⟨r.val + 1, by omega⟩ ⟨c.val + 1, by omega⟩ := by
  funext a
  match a with
  | ⟨0, _⟩ => rfl
  | ⟨1, _⟩ => rfl
  | ⟨2, _⟩ => exact Fin.ext (show 1 + 1 * r.val = r.val + 1 by omega)
  | ⟨3, _⟩ => exact Fin.ext (show 1 + 1 * c.val = c.val + 1 by omega)

/-- Every place is a place of the whole block. -/
theorem emb_whole (y : S1x2x192x192.Idx) : whole.emb y = y := by
  funext a
  match a with
  | ⟨0, _⟩ => exact Fin.ext (show 0 + 1 * (y 0).val = (y 0).val by omega)
  | ⟨1, _⟩ => exact Fin.ext (show 0 + 1 * (y 1).val = (y 1).val by omega)
  | ⟨2, _⟩ => exact Fin.ext (show 0 + 1 * (y 2).val = (y 2).val by omega)
  | ⟨3, _⟩ => exact Fin.ext (show 0 + 1 * (y 3).val = (y 3).val by omega)

theorem mem_inside1 {i : Fin 2} {r c : Fin 192} (h : ix4 0 i r c ∈ inside1.set) :
    i = 1 ∧ (1 ≤ r.val ∧ r.val - 1 < 190) ∧ 1 ≤ c.val ∧ c.val - 1 < 190 := by
  have h := Rect.mem_set_unit.1 h
  have h1 : 1 ≤ i.val ∧ i.val < 1 + 1 := h 1
  have h2 : 1 ≤ r.val ∧ r.val < 1 + 190 := h 2
  have h3 : 1 ≤ c.val ∧ c.val < 1 + 190 := h 3
  exact ⟨Fin.ext (by show i.val = 1; omega), by omega, by omega⟩

theorem mem_inside0 {i : Fin 2} {r c : Fin 192} (h : ix4 0 i r c ∈ inside0.set) :
    i = 0 ∧ (1 ≤ r.val ∧ r.val - 1 < 190) ∧ 1 ≤ c.val ∧ c.val - 1 < 190 := by
  have h := Rect.mem_set_unit.1 h
  have h1 : 0 ≤ i.val ∧ i.val < 0 + 1 := h 1
  have h2 : 1 ≤ r.val ∧ r.val < 1 + 190 := h 2
  have h3 : 1 ≤ c.val ∧ c.val < 1 + 190 := h 3
  exact ⟨Fin.ext (by show i.val = 0; omega), by omega, by omega⟩

section Stores

variable (J M : Vec Ideal S1x1x190x190 .f32) (Z : Vec Ideal S1x2x192x192 .f32)

/-- The last store is found inside plane 1, -/
theorem stored1 (r c : Fin 190) :
    View.canon (Val := Elt Ideal) (e := .f32) [⟨inside1, J⟩, ⟨inside0, M⟩, ⟨whole, Z⟩]
      (ix4 0 1 ⟨r.val + 1, by omega⟩ ⟨c.val + 1, by omega⟩) = J (ix4 0 0 r c) :=
  (congrArg _ (emb_inside1 r c).symm).trans (View.canon_cons_emb inside1 J _ (ix4 0 0 r c))

/-- the one before it inside plane 0, -/
theorem stored0 (r c : Fin 190) :
    View.canon (Val := Elt Ideal) (e := .f32) [⟨inside1, J⟩, ⟨inside0, M⟩, ⟨whole, Z⟩]
      (ix4 0 0 ⟨r.val + 1, by omega⟩ ⟨c.val + 1, by omega⟩) = M (ix4 0 0 r c) := by
  have h : ix4 0 0 ⟨r.val + 1, by omega⟩ ⟨c.val + 1, by omega⟩ ∉ inside1.set :=
    fun h => absurd (mem_inside1 h).1 (by decide)
  have e := View.canon_cons_emb (Val := Elt Ideal) (e := .f32) inside0 M [⟨whole, Z⟩] (ix4 0 0 r c)
  rw [emb_inside0] at e
  exact (View.canon_cons_of_not_mem (Val := Elt Ideal) (e := .f32) ⟨inside1, J⟩ [⟨inside0, M⟩, ⟨whole, Z⟩] h).trans e

/-- and the first one elsewhere. -/
theorem stored_rim (i : Fin 2) (r c : Fin 192)
    (h : ¬((1 ≤ r.val ∧ r.val - 1 < 190) ∧ 1 ≤ c.val ∧ c.val - 1 < 190)) :
    View.canon (Val := Elt Ideal) (e := .f32) [⟨inside1, J⟩, ⟨inside0, M⟩, ⟨whole, Z⟩] (ix4 0 i r c) = Z (ix4 0 i r c) := by
  have h1 : ix4 0 i r c ∉ inside1.set := fun h' => h (mem_inside1 h').2
  have h0 : ix4 0 i r c ∉ inside0.set := fun h' => h (mem_inside0 h').2
  have e := View.canon_cons_emb (Val := Elt Ideal) (e := .f32) whole Z [] (ix4 0 i r c)
  rw [emb_whole] at e
  exact (View.canon_cons_of_not_mem (Val := Elt Ideal) (e := .f32) ⟨inside1, J⟩ [⟨inside0, M⟩, ⟨whole, Z⟩] h1).trans
    ((View.canon_cons_of_not_mem (Val := Elt Ideal) (e := .f32) ⟨inside0, M⟩ [⟨whole, Z⟩] h0).trans e)

end Stores

section Out

variable (x y : Vec Ideal S1x3x192x192 .f32)

theorem out_joint (r c : Fin 190) :
    out x y (ix4 0 1 ⟨r.val + 1, by omega⟩ ⟨c.val + 1, by omega⟩) = joint x y (ix2 r c) :=
  (stored1 _ _ _ r c).trans (plane_at _ r c)

theorem out_marginal (r c : Fin 190) :
    out x y (ix4 0 0 ⟨r.val + 1, by omega⟩ ⟨c.val + 1, by omega⟩) = marginal x (ix2 r c) :=
  (stored0 _ _ _ r c).trans (plane_at _ r c)

theorem out_rim (i : Fin 2) (r c : Fin 192)
    (h : ¬((1 ≤ r.val ∧ r.val - 1 < 190) ∧ 1 ≤ c.val ∧ c.val - 1 < 190)) : out x y (ix4 0 i r c) = 0 :=
  (stored_rim _ _ _ i r c h).trans (zeros_at i r c)

variable {x y} {p q : ℕ → ℕ → Fin 3 → ℝ}

/-- The block of two frames of real pixels. -/
theorem out_at (hx : Pixels x p) (hy : Pixels y q) (i : Fin 2) (r c : Fin 192) :
    out x y (ix4 0 i r c)
      = if (1 ≤ r.val ∧ r.val - 1 < 190) ∧ 1 ≤ c.val ∧ c.val - 1 < 190 then
          (if i.val < 1 then ((Cert.Patch.entropy (3 / 2) (fun i j =>
              Cert.Patch.gaussian (p (r - 1 + i.val / 3) (c - 1 + i.val % 3)) (p (r - 1 + j.val / 3) (c - 1 + j.val % 3))) : ℝ) : EReal)
           else ((Cert.Patch.entropy 3 (fun i j =>
              Cert.Patch.gaussian (p (r - 1 + i.val / 3) (c - 1 + i.val % 3)) (p (r - 1 + j.val / 3) (c - 1 + j.val % 3))
                * Cert.Patch.gaussian (q (r - 1 + i.val / 3) (c - 1 + i.val % 3)) (q (r - 1 + j.val / 3) (c - 1 + j.val % 3))) : ℝ) : EReal))
        else 0 := by
  split
  · next h =>
    obtain ⟨⟨hr, hr'⟩, hc, hc'⟩ := h
    have er : r = ⟨r.val - 1 + 1, by omega⟩ := Fin.ext (by show r.val = r.val - 1 + 1; omega)
    have ec : c = ⟨c.val - 1 + 1, by omega⟩ := Fin.ext (by show c.val = c.val - 1 + 1; omega)
    split
    · next hi =>
      obtain rfl : i = 0 := Fin.ext (by show i.val = 0; omega)
      obtain ⟨_, _, e⟩ := marginal_at hx hr' hc'
      exact ((congrArg₂ (fun r c => out x y (ix4 0 0 r c)) er ec).trans (out_marginal x y ⟨_, hr'⟩ ⟨_, hc'⟩)).trans e
    · next hi =>
      obtain rfl : i = 1 := Fin.ext (by show i.val = 1; omega)
      obtain ⟨_, _, e⟩ := joint_at hx hy hr' hc'
      exact ((congrArg₂ (fun r c => out x y (ix4 0 1 r c)) er ec).trans (out_joint x y ⟨_, hr'⟩ ⟨_, hc'⟩)).trans e
  · next h => exact out_rim x y i r c h

end Out

end Cert.KernelIdeal.Ent

end
-- ==== Proof.RefOps.lean ====
/- The reference's result as a composition of a few named steps: the patches, each frame's successor, the two
   side by side, and the entropy of the nine points of every patch. -/
module

public import proofs.«01_k».proof.Proof.Gen.ReferenceIdeal.Run

@[expose] public section

noncomputable section

namespace Cert.ReferenceIdeal.Ent

open Cert.ReferenceIdeal Cert.ReferenceIdeal.Gen
open Idealize.ShloMosaic Idealize.ShloMosaic.TcCoe

variable {F : FTy → Type} [FloatOps F]

/-- One of the nine shifted copies of the input, with an axis of length one for the copies to be stacked along. -/
def lifted (x : FVec F S4x4x3x190x190 .f32) : FVec F S4x4x3x1x190x190 .f32 :=
  broadcastInDim S4x4x3x1x190x190 ![0, 1, 2, 4, 5] bcast_S4x4x3x190x190_S4x4x3x1x190x190_0_1_2_4_5 x

/-- Every patch of the input: place, then point of the patch, then channel. -/
def patches (x : FVec F S4x4x3x192x192 .f32) : FVec F S4x4x190x190x9x3 .f32 :=
  transpose S4x4x190x190x9x3 [0, 1, 4, 5, 3, 2]
    (concatenate S4x4x3x9x190x190 3
      [⟨S4x4x3x1x190x190, lifted (extractStridedSlice S4x4x3x190x190 ![0, 0, 0, 0, 0] x slices_S4x4x3x192x192_S4x4x3x190x190_0_0_0_0_0)⟩,
       ⟨S4x4x3x1x190x190, lifted (extractStridedSlice S4x4x3x190x190 ![0, 0, 0, 0, 1] x slices_S4x4x3x192x192_S4x4x3x190x190_0_0_0_0_1)⟩,
       ⟨S4x4x3x1x190x190, lifted (extractStridedSlice S4x4x3x190x190 ![0, 0, 0, 0, 2] x slices_S4x4x3x192x192_S4x4x3x190x190_0_0_0_0_2)⟩,
       ⟨S4x4x3x1x190x190, lifted (extractStridedSlice S4x4x3x190x190 ![0, 0, 0, 1, 0] x slices_S4x4x3x192x192_S4x4x3x190x190_0_0_0_1_0)⟩,
       ⟨S4x4x3x1x190x190, lifted (extractStridedSlice S4x4x3x190x190 ![0, 0, 0, 1, 1] x slices_S4x4x3x192x192_S4x4x3x190x190_0_0_0_1_1)⟩,
       ⟨S4x4x3x1x190x190, lifted (extractStridedSlice S4x4x3x190x190 ![0, 0, 0, 1, 2] x slices_S4x4x3x192x192_S4x4x3x190x190_0_0_0_1_2)⟩,
       ⟨S4x4x3x1x190x190, lifted (extractStridedSlice S4x4x3x190x190 ![0, 0, 0, 2, 0] x slices_S4x4x3x192x192_S4x4x3x190x190_0_0_0_2_0)⟩,
       ⟨S4x4x3x1x190x190, lifted (extractStridedSlice S4x4x3x190x190 ![0, 0, 0, 2, 1] x slices_S4x4x3x192x192_S4x4x3x190x190_0_0_0_2_1)⟩,
       ⟨S4x4x3x1x190x190, lifted (extractStridedSlice S4x4x3x190x190 ![0, 0, 0, 2, 2] x slices_S4x4x3x192x192_S4x4x3x190x190_0_0_0_2_2)⟩]
      concatenates_S4x4x3x1x190x190_S4x4x3x1x190x190_S4x4x3x1x190x190_S4x4x3x1x190x190_S4x4x3x1x190x190_S4x4x3x1x190x190_S4x4x3x1x190x190_S4x4x3x1x190x190_S4x4x3x1x190x190_S4x4x3x9x190x190_d3)
    transposes_S4x4x3x9x190x190_S4x4x190x190x9x3_0_1_4_5_3_2

/-- The next frame's patches; the last frame is followed by itself. -/
def following (p : FVec F S4x4x190x190x9x3 .f32) : FVec F S4x4x190x190x9x3 .f32 :=
  concatenate S4x4x190x190x9x3 1
    [⟨S4x3x190x190x9x3, extractStridedSlice S4x3x190x190x9x3 ![0, 1, 0, 0, 0, 0] p slices_S4x4x190x190x9x3_S4x3x190x190x9x3_0_1_0_0_0_0⟩,
     ⟨S4x1x190x190x9x3, extractStridedSlice S4x1x190x190x9x3 ![0, 3, 0, 0, 0, 0] p slices_S4x4x190x190x9x3_S4x1x190x190x9x3_0_3_0_0_0_0⟩]
    concatenates_S4x3x190x190x9x3_S4x1x190x190x9x3_S4x4x190x190x9x3_d1

/-- A frame's patches and the next one's, channel after channel. -/
def both (p q : FVec F S4x4x190x190x9x3 .f32) : FVec F S4x4x190x190x9x6 .f32 :=
  concatenate S4x4x190x190x9x6 5 [⟨S4x4x190x190x9x3, p⟩, ⟨S4x4x190x190x9x3, q⟩]
    concatenates_S4x4x190x190x9x3_S4x4x190x190x9x3_S4x4x190x190x9x6_d5

/-- The bandwidth, a tenth. -/
def width : FVec F S_ .f32 := Host.divf (constant S_ .f32 0x3F800000#32) (constant S_ .f32 0x41200000#32)

/-- One over twice the bandwidth's square. -/
def sharpness : FVec F S_ .f32 :=
  Host.divf (constant S_ .f32 0x3F800000#32) (mulf (mulf (constant S_ .f32 0x40000000#32) width) width)

/-- Half the number of channels, `k`, times the logarithm of two pi times the bandwidth's square. -/
def normaliser (k : FVec F S_ .f32) : FVec F S_ .f32 :=
  mulf k (Host.log (mulf (mulf
    (mulf (constant S_ .f32 0x40000000#32) (Host.acos (constant S_ .f32 0xBF800000#32))) width) width))

/-- The squared distance of every two points of every patch, from the points' squared lengths `sq` and their products. -/
def distances (sq : FVec F S4x4x190x190x9 .f32) (dot : FVec F S4x4x190x190x9x9 .f32) : FVec F S4x4x190x190x9x9 .f32 :=
  maximumf
    (subf
      (addf
        (broadcastInDim S4x4x190x190x9x9 ![0, 1, 2, 3, 4, 5] bcast_S4x4x190x190x9x1_S4x4x190x190x9x9_0_1_2_3_4_5
          (broadcastInDim S4x4x190x190x9x1 ![0, 1, 2, 3, 4] bcast_S4x4x190x190x9_S4x4x190x190x9x1_0_1_2_3_4 sq))
        (broadcastInDim S4x4x190x190x9x9 ![0, 1, 2, 3, 4, 5] bcast_S4x4x190x190x1x9_S4x4x190x190x9x9_0_1_2_3_4_5
          (broadcastInDim S4x4x190x190x1x9 ![0, 1, 2, 3, 5] bcast_S4x4x190x190x9_S4x4x190x190x1x9_0_1_2_3_5 sq)))
      (mulf (broadcastInDim S4x4x190x190x9x9 ![] bcast_S_S4x4x190x190x9x9 (constant S_ .f32 0x40000000#32)) dot))
    (broadcastInDim S4x4x190x190x9x9 ![] bcast_S_S4x4x190x190x9x9 (constant S_ .f32 0x00000000#32))

/-- The entropy of every patch, from the squared distances of its points. -/
def entropyOf (k : FVec F S_ .f32) (d : FVec F S4x4x190x190x9x9 .f32) : FVec F S4x4x190x190 .f32 :=
  Host.negf (Host.divf
    (Host.reduceAdd
      (subf
        (subf
          (Host.log (Host.reduceAdd
            (Host.exp (mulf (Host.negf d) (broadcastInDim S4x4x190x190x9x9 ![] bcast_S_S4x4x190x190x9x9 sharpness)))
            (constant S_ .f32 0x00000000#32) reducesTo_S4x4x190x190x9x9_S4x4x190x190x9_d5 h_S_))
          (broadcastInDim S4x4x190x190x9 ![] bcast_S_S4x4x190x190x9 (Host.log (constant S_ .f32 0x41100000#32))))
        (broadcastInDim S4x4x190x190x9 ![] bcast_S_S4x4x190x190x9 (normaliser k)))
      (constant S_ .f32 0x00000000#32) reducesTo_S4x4x190x190x9_S4x4x190x190_d4 h_S_)
    (broadcastInDim S4x4x190x190 ![] bcast_S_S4x4x190x190 (constant S_ .f32 0x41100000#32)))

/-- The entropies of patches of three channels. -/
def entropy3 (p : FVec F S4x4x190x190x9x3 .f32) : FVec F S4x4x190x190 .f32 :=
  entropyOf (constant S_ .f32 0x3FC00000#32)
    (distances (Host.reduceAdd (mulf p p) (constant S_ .f32 0x00000000#32) reducesTo_S4x4x190x190x9x3_S4x4x190x190x9_d5 h_S_)
      (Host.dotGeneral dot_S4x4x190x190x9x3_S4x4x190x190x9x3_S4x4x190x190x9x9_5_5_4_4_0123_0123 none p p))

/-- The entropies of patches of six. -/
def entropy6 (p : FVec F S4x4x190x190x9x6 .f32) : FVec F S4x4x190x190 .f32 :=
  entropyOf (constant S_ .f32 0x40400000#32)
    (distances (Host.reduceAdd (mulf p p) (constant S_ .f32 0x00000000#32) reducesTo_S4x4x190x190x9x6_S4x4x190x190x9_d5 h_S_)
      (Host.dotGeneral dot_S4x4x190x190x9x6_S4x4x190x190x9x6_S4x4x190x190x9x9_5_5_4_4_0123_0123 none p p))

/-- The marginal and the joint entropies stacked, and a frame of zeros around each plane. -/
def stacked (a b : FVec F S4x4x190x190 .f32) : FVec F S4x4x2x192x192 .f32 :=
  pad S4x4x2x192x192 ![0, 0, 0, 1, 1] ![0, 0, 0, 1, 1] ![0, 0, 0, 0, 0]
    (concatenate S4x4x2x190x190 2
      [⟨S4x4x1x190x190, broadcastInDim S4x4x1x190x190 ![0, 1, 3, 4] bcast_S4x4x190x190_S4x4x1x190x190_0_1_3_4 a⟩,
       ⟨S4x4x1x190x190, broadcastInDim S4x4x1x190x190 ![0, 1, 3, 4] bcast_S4x4x190x190_S4x4x1x190x190_0_1_3_4 b⟩]
      concatenates_S4x4x1x190x190_S4x4x1x190x190_S4x4x2x190x190_d2)
    (sitofp .f32 (constantI S_ 32 0#32)) pads_S4x4x2x190x190_S4x4x2x192x192_000_000_000_110_110 h_S_

/-- The whole reference. -/
def whole (x : FVec F S4x4x3x192x192 .f32) : FVec F S4x4x2x192x192 .f32 :=
  stacked (entropy3 (patches x)) (entropy6 (both (patches x) (following (patches x))))

/-- The reference's result is that. -/
theorem result_eq (m : (ℓ : Loc nD τ sig) → Buf (Elt F) ℓ) (c : Dev nD) :
    Cert.ReferenceIdeal.Value.res_main_v106 m c = whole (m ((c.tc : Thread nD τ).loc main_arg0)) := by
  unfold Cert.ReferenceIdeal.Value.res_main_v106; rfl

end Cert.ReferenceIdeal.Ent

end
-- ==== Proof.RefValue.lean ====
/- The reference at the ideal reading, on an input of finite numbers: entry by entry it is the entropy of the nine
   points of the patch under the entry, and zero on the rim. -/
module

public import proofs.«01_k».proof.Proof.RefOps
public import proofs.«01_k».proof.Proof.Spec
public import Idealize.ShloMosaic.Lib.Pointwise

@[expose] public section

noncomputable section

namespace Cert.ReferenceIdeal.Ent

open Cert.ReferenceIdeal Cert.ReferenceIdeal.Gen
open Idealize.ShloMosaic Idealize.ShloMosaic.TcCoe

/-! ## A sum along the last of six axes -/

theorem sum_last {n0 n1 n2 n3 n4 n5 : ℕ} (h : (⟨6, ![n0, n1, n2, n3, n4, n5]⟩ : Shape).ReducesTo [5] ⟨5, ![n0, n1, n2, n3, n4]⟩)
    (v : (⟨6, ![n0, n1, n2, n3, n4, n5]⟩ : Shape).Idx → EReal) (z : EReal)
    (a : Fin n0) (b : Fin n1) (c : Fin n2) (d : Fin n3) (e : Fin n4) :
    Ideal.hostReduceAdd h v z (ix5 a b c d e) = z + ∑ k : Fin n5, v (ix6 a b c d e k) := by
  unfold Ideal.hostReduceAdd
  congr 1
  refine Finset.sum_filter_eq_sum_of_fiber _ (fun k : Fin n5 => ix6 a b c d e k) (fun k k' hk => congrFun hk 5) (fun i => ?_) v
  constructor
  · intro hi
    refine ⟨i 5, ?_⟩
    funext x
    match x with
    | ⟨0, _⟩ => exact Fin.ext (congrArg Fin.val (congrFun hi 0)).symm
    | ⟨1, _⟩ => exact Fin.ext (congrArg Fin.val (congrFun hi 1)).symm
    | ⟨2, _⟩ => exact Fin.ext (congrArg Fin.val (congrFun hi 2)).symm
    | ⟨3, _⟩ => exact Fin.ext (congrArg Fin.val (congrFun hi 3)).symm
    | ⟨4, _⟩ => exact Fin.ext (congrArg Fin.val (congrFun hi 4)).symm
    | ⟨5, _⟩ => rfl
  · rintro ⟨k, rfl⟩
    funext x
    match x with
    | ⟨0, _⟩ => rfl
    | ⟨1, _⟩ => rfl
    | ⟨2, _⟩ => rfl
    | ⟨3, _⟩ => rfl
    | ⟨4, _⟩ => rfl

/-! ## The constants -/

theorem lit_two : Ideal.ofBits .f32 0x40000000#32 = ((2 : ℝ) : EReal) := by
  simp [Ideal.ofBits, Ideal.ieee]; rw [← EReal.coe_mul]; norm_num
theorem lit_ten : Ideal.ofBits .f32 0x41200000#32 = ((10 : ℝ) : EReal) := by
  simp [Ideal.ofBits, Ideal.ieee]; rw [← EReal.coe_mul]; norm_num
theorem lit_nine : Ideal.ofBits .f32 0x41100000#32 = ((9 : ℝ) : EReal) := by
  simp [Ideal.ofBits, Ideal.ieee]; rw [← EReal.coe_mul]; norm_num
theorem lit_neg_one : Ideal.ofBits .f32 0xBF800000#32 = ((-1 : ℝ) : EReal) := by
  simp [Ideal.ofBits, Ideal.ieee]; rw [← EReal.coe_mul]; norm_num
theorem lit_three : Ideal.ofBits .f32 0x40400000#32 = ((3 : ℝ) : EReal) := by
  simp [Ideal.ofBits, Ideal.ieee]; rw [← EReal.coe_mul]; norm_num
theorem lit_three_halves : Ideal.ofBits .f32 0x3FC00000#32 = ((3 / 2 : ℝ) : EReal) := by
  simp [Ideal.ofBits, Ideal.ieee]; rw [← EReal.coe_mul]; norm_num

theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem log_real (x : ℝ) (hx : 0 < x) : Ideal.log (x : EReal) = ((Real.log x : ℝ) : EReal) := by
  show (if x ≤ 0 then (⊥ : EReal) else (Real.log x : EReal)) = _
  rw [if_neg (not_le.2 hx)]

theorem sum_real {n : ℕ} (f : Fin n → ℝ) : ∑ k, ((f k : ℝ) : EReal) = ((∑ k, f k : ℝ) : EReal) :=
  (map_sum (⟨⟨Real.toEReal, rfl⟩, fun _ _ => rfl⟩ : ℝ →+ EReal) f Finset.univ).symm

theorem tenth : Ideal.div 1 (Ideal.ofBits .f32 0x41200000#32) = ((1 / 10 : ℝ) : EReal) := by
  rw [lit_ten, show (1 : EReal) = ((1 : ℝ) : EReal) from rfl, div_real _ _ (by norm_num)]

theorem width_at : width (F := Ideal) ix0 = ((1 / 10 : ℝ) : EReal) := by
  pointwise [width]
  exact tenth

theorem sharpness_at : sharpness (F := Ideal) ix0 = ((50 : ℝ) : EReal) := by
  pointwise [sharpness, width]
  rw [tenth, lit_two, show (1 : EReal) = ((1 : ℝ) : EReal) from rfl, ← EReal.coe_mul, ← EReal.coe_mul, div_real _ _ (by norm_num)]
  norm_num

theorem normaliser_at (k : FVec Ideal S_ .f32) (n : ℝ) (hk : k ix0 = (n : EReal)) :
    normaliser k ix0 = ((n * Real.log (2 * Real.pi * (1 / 10) * (1 / 10)) : ℝ) : EReal) := by
  pointwise [normaliser, width]
  rw [hk, tenth, lit_two, lit_neg_one,
    show Ideal.acos ((-1 : ℝ) : EReal) = ((Real.pi : ℝ) : EReal) by
      show (if (-1 : ℝ) ≤ -1 ∧ (-1 : ℝ) ≤ 1 then (Real.arccos (-1) : EReal) else ⊥) = _
      rw [if_pos (by norm_num), Real.arccos_neg_one],
    ← EReal.coe_mul, ← EReal.coe_mul, ← EReal.coe_mul, log_real _ (by positivity), ← EReal.coe_mul]

/-! ## The steps -/

/-- The squared distances of real points. -/
theorem distances_at {n : ℕ} (sq : FVec Ideal S4x4x190x190x9 .f32) (dot : FVec Ideal S4x4x190x190x9x9 .f32)
    (a b : Fin 4) (r c : Fin 190) (P : Fin 9 → Fin n → ℝ)
    (hsq : ∀ i, sq (ix5 a b r c i) = ((∑ k, P i k * P i k : ℝ) : EReal))
    (hdot : ∀ i j, dot (ix6 a b r c i j) = ((∑ k, P i k * P j k : ℝ) : EReal)) (i j : Fin 9) :
    distances sq dot (ix6 a b r c i j) = ((∑ k, (P i k - P j k) ^ 2 : ℝ) : EReal) := by
  pointwise [distances]
  rw [hsq, hsq, hdot, lit_two, ← EReal.coe_mul, ← EReal.coe_add, ← EReal.coe_sub]
  have h : (∑ k, P i k * P i k) + (∑ k, P j k * P j k) - 2 * ∑ k, P i k * P j k = ∑ k, (P i k - P j k) ^ 2 := by
    rw [Finset.mul_sum, ← Finset.sum_add_distrib, ← Finset.sum_sub_distrib]
    exact Finset.sum_congr rfl fun k _ => by ring
  rw [h]
  exact max_eq_left (EReal.coe_nonneg.2 (Finset.sum_nonneg fun k _ => sq_nonneg _))

/-- The entropies of real squared distances. -/
theorem entropyOf_at (k : FVec Ideal S_ .f32) (n : ℝ) (hk : k ix0 = (n : EReal)) (d : FVec Ideal S4x4x190x190x9x9 .f32)
    (a b : Fin 4) (r c : Fin 190) (D : Fin 9 → Fin 9 → ℝ) (hd : ∀ i j, d (ix6 a b r c i j) = (D i j : EReal)) :
    entropyOf k d (ix4 a b r c) = ((Cert.Patch.entropy n fun i j => Real.exp (-50 * D i j) : ℝ) : EReal) := by
  have hrow : ∀ i : Fin 9, Ideal.hostReduceAdd reducesTo_S4x4x190x190x9x9_S4x4x190x190x9_d5
      (Host.exp (mulf (Host.negf d) (broadcastInDim S4x4x190x190x9x9 ![] bcast_S_S4x4x190x190x9x9 (sharpness (F := Ideal)))))
      0 (ix5 a b r c i) = ((∑ j, Real.exp (-50 * D i j) : ℝ) : EReal) := by
    intro i
    rw [sum_last, zero_add, ← sum_real]
    refine Finset.sum_congr rfl fun j _ => ?_
    pointwise
    rw [hd, sharpness_at, ← EReal.coe_neg, ← EReal.coe_mul]
    show ((Real.exp (-D i j * 50) : ℝ) : EReal) = _
    congr 2
    ring
  pointwise [entropyOf]
  simp only [hrow, normaliser_at k n hk, lit_nine]
  have hpos : ∀ i : Fin 9, 0 < ∑ j, Real.exp (-50 * D i j) := fun i =>
    Finset.sum_pos (fun j _ => Real.exp_pos _) ⟨0, Finset.mem_univ _⟩
  simp only [fun i => log_real _ (hpos i), log_real 9 (by norm_num), ← EReal.coe_sub]
  rw [sum_real, div_real _ _ (by norm_num), ← EReal.coe_neg]
  rfl

/-- Three channels. -/
theorem entropy3_at (p : FVec Ideal S4x4x190x190x9x3 .f32) (a b : Fin 4) (r c : Fin 190) (P : Fin 9 → Fin 3 → ℝ)
    (hp : ∀ i k, p (ix6 a b r c i k) = (P i k : EReal)) :
    entropy3 p (ix4 a b r c)
      = ((Cert.Patch.entropy (3 / 2) fun i j => Real.exp (-50 * ∑ k, (P i k - P j k) ^ 2) : ℝ) : EReal) := by
  refine entropyOf_at _ _ lit_three_halves _ a b r c _ fun i j => distances_at _ _ a b r c P (fun i => ?_) (fun i j => ?_) i j
  · show Ideal.hostReduceAdd _ _ _ _ = _
    rw [sum_last, ← sum_real]
    pointwise
    simp only [hp, EReal.coe_mul]
  · pointwise
    simp only [hp, ← EReal.coe_mul, sum_real]

/-- Six. -/
theorem entropy6_at (p : FVec Ideal S4x4x190x190x9x6 .f32) (a b : Fin 4) (r c : Fin 190) (P : Fin 9 → Fin 6 → ℝ)
    (hp : ∀ i k, p (ix6 a b r c i k) = (P i k : EReal)) :
    entropy6 p (ix4 a b r c)
      = ((Cert.Patch.entropy 3 fun i j => Real.exp (-50 * ∑ k, (P i k - P j k) ^ 2) : ℝ) : EReal) := by
  refine entropyOf_at _ _ lit_three _ a b r c _ fun i j => distances_at _ _ a b r c P (fun i => ?_) (fun i j => ?_) i j
  · show Ideal.hostReduceAdd _ _ _ _ = _
    rw [sum_last, ← sum_real]
    pointwise
    simp only [hp, EReal.coe_mul]
  · pointwise
    simp only [hp, ← EReal.coe_mul, sum_real]

/-! ## The whole -/

/-- Every entry is a finite number. -/
def AllFinite (x : FVec Ideal S4x4x3x192x192 .f32) : Prop := ∀ i, x i ≠ ⊤ ∧ x i ≠ ⊥

/-- The pixel in row `r` and column `c` of frame `b` of clip `a`, as three real channels. -/
def pixel (x : FVec Ideal S4x4x3x192x192 .f32) (a b : Fin 4) (r c : ℕ) (k : Fin 3) : ℝ :=
  if h : r < 192 ∧ c < 192 then (x (ix5 a b k ⟨r, h.1⟩ ⟨c, h.2⟩)).toReal else 0

theorem pixel_eq (x : FVec Ideal S4x4x3x192x192 .f32) (hx : AllFinite x) (a b : Fin 4) (k : Fin 3) {r c : ℕ}
    (hr : r < 192) (hc : c < 192) : x (ix5 a b k ⟨r, hr⟩ ⟨c, hc⟩) = (pixel x a b r c k : EReal) := by
  unfold pixel
  rw [dif_pos ⟨hr, hc⟩, EReal.coe_toReal (hx _).1 (hx _).2]

/-- The frame after `b`; the last is followed by itself. -/
def next (b : Fin 4) : Fin 4 := if h : b.val < 3 then ⟨1 + b.val, by omega⟩ else 3

/-- A patch's point: its pixel. -/
def point (x : FVec Ideal S4x4x3x192x192 .f32) (a b : Fin 4) (r c : ℕ) (i : Fin 9) (k : Fin 3) : ℝ :=
  pixel x a b (i.val / 3 + r) (i.val % 3 + c) k

theorem patches_at (x : FVec Ideal S4x4x3x192x192 .f32) (hx : AllFinite x) (a b : Fin 4) (r c : Fin 190) (i : Fin 9) (k : Fin 3) :
    patches x (ix6 a b r c i k) = (point x a b r c i k : EReal) := by
  have hr := r.isLt
  have hc := c.isLt
  pointwise [patches, lifted]
  unfold point
  fin_cases i
  · exact (pixel_eq x hx a b k (by omega) (by omega)).trans (by simp)
  · exact (pixel_eq x hx a b k (by omega) (by omega)).trans (by simp)
  · exact (pixel_eq x hx a b k (by omega) (by omega)).trans (by simp)
  · exact (pixel_eq x hx a b k (by omega) (by omega)).trans (by simp)
  · exact (pixel_eq x hx a b k (by omega) (by omega)).trans (by simp)
  · exact (pixel_eq x hx a b k (by omega) (by omega)).trans (by simp)
  · exact (pixel_eq x hx a b k (by omega) (by omega)).trans (by simp)
  · exact (pixel_eq x hx a b k (by omega) (by omega)).trans (by simp)
  · exact (pixel_eq x hx a b k (by omega) (by omega)).trans (by simp)

theorem following_at (p : FVec Ideal S4x4x190x190x9x3 .f32) (a b : Fin 4) (r c : Fin 190) (i : Fin 9) (k : Fin 3) :
    following p (ix6 a b r c i k) = p (ix6 a (next b) r c i k) := by
  pointwise [following]
  unfold next
  split
  · rfl
  · congr 2
    apply Fin.ext
    show 3 + (b.val - 3) = 3
    omega

/-- The kernel values of the points of a patch. -/
def marg (x : FVec Ideal S4x4x3x192x192 .f32) (a b : Fin 4) (r c : ℕ) (i j : Fin 9) : ℝ :=
  Cert.Patch.gaussian (point x a b r c i) (point x a b r c j)

theorem marginal_at (x : FVec Ideal S4x4x3x192x192 .f32) (hx : AllFinite x) (a b : Fin 4) (r c : Fin 190) :
    entropy3 (patches x) (ix4 a b r c) = ((Cert.Patch.entropy (3 / 2) (marg x a b r c) : ℝ) : EReal) :=
  entropy3_at _ a b r c (point x a b r c) fun i k => patches_at x hx a b r c i k

theorem joint_at (x : FVec Ideal S4x4x3x192x192 .f32) (hx : AllFinite x) (a b : Fin 4) (r c : Fin 190) :
    entropy6 (both (patches x) (following (patches x))) (ix4 a b r c)
      = ((Cert.Patch.entropy 3 (fun i j => marg x a b r c i j * marg x a (next b) r c i j) : ℝ) : EReal) := by
  rw [entropy6_at _ a b r c (fun i k => if h : k.val < 3 then point x a b r c i ⟨k, h⟩ else point x a (next b) r c i ⟨k - 3, by omega⟩)]
  · congr 2
    funext i j
    unfold marg Cert.Patch.gaussian
    rw [← Real.exp_add, ← mul_add, Fin.sum_univ_six, Fin.sum_univ_three, Fin.sum_univ_three]
    congr 2
    simp
    ring
  · intro i k
    pointwise [both]
    split
    · exact patches_at x hx a b r c i _
    · rw [following_at, patches_at x hx]

/-- Every entry of the reference. -/
theorem whole_at (x : FVec Ideal S4x4x3x192x192 .f32) (hx : AllFinite x) (a b : Fin 4) (i : Fin 2) (r c : Fin 192) :
    whole x (ix5 a b i r c)
      = if (1 ≤ r.val ∧ r.val - 1 < 190) ∧ 1 ≤ c.val ∧ c.val - 1 < 190 then
          (if i.val < 1 then ((Cert.Patch.entropy (3 / 2) (marg x a b (r - 1) (c - 1)) : ℝ) : EReal)
           else ((Cert.Patch.entropy 3 (fun i j => marg x a b (r - 1) (c - 1) i j * marg x a (next b) (r - 1) (c - 1) i j) : ℝ) : EReal))
        else 0 := by
  unfold whole
  pointwise [stacked]
  split
  · split
    · exact marginal_at x hx a b _ _
    · exact joint_at x hx a b _ _
  · show (((0#32 : BitVec 32).toInt : ℝ) : EReal) = 0
    simp

end Cert.ReferenceIdeal.Ent

end
-- ==== Proof.Array.lean ====
/- The launch's arrays: which frames of the argument a grid point reads, and where its block lies in the result. -/
module

public import proofs.«01_k».proof.Proof.Block
public import proofs.«01_k».proof.Proof.Launch
public import proofs.«01_k».proof.Proof.RefValue
public import Idealize.ShloMosaic.Lib.Pipeline.ValueKit

@[expose] public section

noncomputable section

namespace Cert.KernelIdeal.Ent

open Cert.KernelIdeal Cert.KernelIdeal.Gen
open Idealize.ShloMosaic Idealize.ShloMosaic.TcCoe
open Cert.ReferenceIdeal.Ent (AllFinite pixel pixel_eq next)

/-- The grid point of frame `b` of clip `a`. -/
def pt (a b : Fin 4) : Fin cfg0.N := ⟨4 * a.val + b.val, by show 4 * a.val + b.val < 16; omega⟩

/-- The first window's block is that frame. -/
theorem index_frame : ∀ a b : Fin 4, win0_0.index (pt a b) = ![4 * a.val + b.val, 0, 0, 0] := by decide +kernel
/-- The second's is the frame after it. -/
theorem index_next : ∀ a b : Fin 4, win0_1.index (pt a b) = ![4 * a.val + (next b).val, 0, 0, 0] := by decide +kernel
/-- The output's is the frame's own. -/
theorem index_out : ∀ a b : Fin 4, win0_2.index (pt a b) = ![4 * a.val + b.val, 0, 0, 0] := by decide +kernel

variable (m : (ℓ : Loc nD τ sig) → Buf (Elt Ideal) ℓ)

/-- The argument. -/
abbrev arg (c : Dev nD) : FVec Ideal S4x4x3x192x192 .f32 := m ((c.tc : Thread nD τ).loc main_arg0)

/-- Four clips of four frames as sixteen. -/
theorem sixteen_at (X : Vec Ideal S4x4x3x192x192 .f32) (a b : Fin 4) (k : Fin 3) (i j : Fin 192) :
    shapeCast S16x3x192x192 X shapeCasts_S4x4x3x192x192_S16x3x192x192 (ix4 ⟨4 * a.val + b.val, by omega⟩ k i j)
      = X (ix5 a b k i j) := by
  refine shapeCast_apply _ _ _ _ ?_
  rw [Shape.rowMajor_val_five, Shape.rowMajor_val_four]
  show (((a.val * 4 + b.val) * 3 + k.val) * 192 + i.val) * 192 + j.val
    = (((4 * a.val + b.val) * 3 + k.val) * 192 + i.val) * 192 + j.val
  omega

theorem frames_at (c : Dev nD) (a b : Fin 4) (k : Fin 3) (i j : Fin 192) :
    frames m c (ix4 ⟨4 * a.val + b.val, by omega⟩ k i j) = arg m c (ix5 a b k i j) :=
  sixteen_at _ a b k i j

theorem frame_block (c : Dev nD) (a b : Fin 4) (k : Fin 3) (i j : Fin 192) :
    iblk m c 0 (pt a b) (ix4 0 k i j) = arg m c (ix5 a b k i j) := by
  rw [← frames_at]
  unfold iblk
  show V m c main_v0 _ = _
  rw [frames_eq]
  blk_ext [index_frame a b]

theorem next_block (c : Dev nD) (a b : Fin 4) (k : Fin 3) (i j : Fin 192) :
    iblk m c 1 (pt a b) (ix4 0 k i j) = arg m c (ix5 a (next b) k i j) := by
  rw [← frames_at]
  unfold iblk
  show V m c main_v0 _ = _
  rw [frames_eq]
  blk_ext [index_next a b]

/-- The sixteen blocks as four clips of four. -/
theorem clips_at (A : Vec Ideal S16x2x192x192 .f32) (a b : Fin 4) (k : Fin 2) (i j : Fin 192) :
    shapeCast S4x4x2x192x192 A shapeCasts_S16x2x192x192_S4x4x2x192x192 (ix5 a b k i j)
      = A (ix4 ⟨4 * a.val + b.val, by omega⟩ k i j) := by
  refine shapeCast_apply _ _ _ _ ?_
  rw [Shape.rowMajor_val_five, Shape.rowMajor_val_four]
  show (((4 * a.val + b.val) * 2 + k.val) * 192 + i.val) * 192 + j.val
    = (((a.val * 4 + b.val) * 2 + k.val) * 192 + i.val) * 192 + j.val
  omega

/-- The output window's block at that grid point is the frame's. -/
theorem out_block (A : Vec Ideal S16x2x192x192 .f32) (a b : Fin 4) (k : Fin 2) (i j : Fin 192) :
    ((cfg0.win 2).blk (pt a b)).view.read (Elt Ideal) A (ix4 0 k i j) = A (ix4 ⟨4 * a.val + b.val, by omega⟩ k i j) := by
  blk_ext [index_out a b]

/-- The result's entries of clip `a` and frame `b` are the block of that grid point. -/
theorem result_block (c : Dev nD) (a b : Fin 4) (k : Fin 2) (i j : Fin 192) :
    result m c (ix5 a b k i j) = out (iblk m c 0 (pt a b)) (iblk m c 1 (pt a b)) (ix4 0 k i j) :=
  ((clips_at _ a b k i j).trans (out_block _ a b k i j).symm).trans (congrFun (block_out m c (pt a b)) _)

variable {m} {c : Dev nD}

theorem frame_pixels (hx : AllFinite (arg m c)) (a b : Fin 4) :
    Pixels (iblk m c 0 (pt a b)) (pixel (arg m c) a b) :=
  fun k r j hr hj => (frame_block m c a b k ⟨r, hr⟩ ⟨j, hj⟩).trans (pixel_eq _ hx a b k hr hj)

theorem next_pixels (hx : AllFinite (arg m c)) (a b : Fin 4) :
    Pixels (iblk m c 1 (pt a b)) (pixel (arg m c) a (next b)) :=
  fun k r j hr hj => (next_block m c a b k ⟨r, hr⟩ ⟨j, hj⟩).trans (pixel_eq _ hx a (next b) k hr hj)

end Cert.KernelIdeal.Ent

end
-- ==== Proof.Value.lean ====
/- The equation: on an input of finite numbers the kernel's result is the reference's, entry by entry. -/
module

public import proofs.«01_k».proof.Proof.Array
public import proofs.«01_k».proof.Pre_finite

@[expose] public section

noncomputable section

namespace Cert.KernelIdeal.Ent

open Cert.KernelIdeal Cert.KernelIdeal.Gen
open Idealize.ShloMosaic Idealize.ShloMosaic.TcCoe
open Cert.ReferenceIdeal.Ent (AllFinite pixel point marg next whole_at)

/-- The shapes in the precondition fit. -/
theorem pre_facts : Cert.Pre_finite.Facts where
  bcast_S_S4x4x3x192x192 := by decide

/-- The precondition says that no entry is infinite. -/
theorem finite_of_pre [Cert.Pre_finite.Facts] (x : FVec Ideal S4x4x3x192x192 .f32)
    (h : Cert.Pre_finite.fn (F := Ideal) x = fun _ => 1#1) : AllFinite x := by
  intro i
  have hi := congrFun h i
  have htop : Ideal.ofBits .f32 0x7F800000#32 = ⊤ := by simp [Ideal.ofBits, Ideal.ieee]
  have e : Cert.Pre_finite.fn (F := Ideal) x i = BitVec.ofBool (decide (max (x i) (-(x i)) < Ideal.ofBits .f32 0x7F800000#32)) := rfl
  rw [e, htop] at hi
  have hlt : max (x i) (-(x i)) < ⊤ := by
    by_contra hn
    rw [decide_eq_false hn] at hi
    exact absurd hi (by decide)
  constructor
  · intro hx
    rw [hx] at hlt
    exact absurd hlt (by simp)
  · intro hx
    rw [hx] at hlt
    exact absurd hlt (by simp)

variable (m : (ℓ : Loc nD τ sig) → Buf (Elt Ideal) ℓ) (c : Dev nD)

/-- The points of a patch: its corner plus the offset, or the offset plus its corner. -/
theorem point_eq (x : FVec Ideal S4x4x3x192x192 .f32) (a b : Fin 4) (r s : ℕ) (i : Fin 9) :
    pixel x a b (r + i.val / 3) (s + i.val % 3) = point x a b r s i := by
  funext k
  unfold point
  rw [Nat.add_comm r, Nat.add_comm s]

/-- The kernel's result is the reference's. -/
theorem result_eq (hx : AllFinite (arg m c)) : result m c = Cert.ReferenceIdeal.Ent.whole (arg m c) := by
  funext y
  obtain ⟨a, b, i, r, s, rfl⟩ : ∃ a b i r s, y = ix5 a b i r s := ⟨y 0, y 1, y 2, y 3, y 4, eq_ix5 y⟩
  refine (result_block m c a b i r s).trans ?_
  refine (out_at (frame_pixels hx a b) (next_pixels hx a b) i r s).trans ?_
  refine Eq.trans ?_ (whole_at (arg m c) hx a b i r s).symm
  simp only [point_eq]
  rfl

end Cert.KernelIdeal.Ent

end
-- ==== Proof.Plain.Launch.lean ====
/- The whole launch of the kernel as printed: what every buffer holds around each grid point, the run, and that the
   argument ends as it began and every counter at zero. -/
module

public import proofs.«01_k».proof.Proof.Plain.Body
public import Idealize.ShloMosaic.Lib.Pipeline.Value
public import Idealize.ShloMosaic.Lib.Claim

@[expose] public section

set_option maxRecDepth 16384

noncomputable section

namespace Cert.Kernel.Ent

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's data: the arrays as the region finds them; after point `t` the input buffers hold their blocks and
    the output buffer `out` of the two. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out (iblk m c 0 t) (iblk m c 1 t)
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]

theorem after_frame (c : Dev nD) (t : Fin cfg0.N) : (dats m 0 c).after 0 t = iblk m c 0 t := by dsimp only [dats]
theorem after_next (c : Dev nD) (t : Fin cfg0.N) : (dats m 0 c).after 1 t = iblk m c 1 t := by dsimp only [dats]
theorem after_out (c : Dev nD) (t : Fin cfg0.N) :
    (dats m 0 c).after 2 t = out (iblk m c 0 t) (iblk m c 1 t) := by dsimp only [dats]

theorem before_frame (c : Dev nD) (t : Fin cfg0.N) (d) : (dats m 0 c).before 0 t d = iblk m c 0 t :=
  before0_0_of m (dats m 0 c) (dats_A m c 0) (after_frame m c) t d
theorem before_next (c : Dev nD) (t : Fin cfg0.N) (d) : (dats m 0 c).before 1 t d = iblk m c 1 t :=
  before0_1_of m (dats m 0 c) (dats_A m c 1) (after_next m c) t d

/-- What the body holds when it starts at point `t`. -/
def atStart (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it holds when it ends. -/
def atEnd (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body takes the one to the other. -/
theorem body_step (c : Dev nD) (t : Fin cfg0.N) :
    atStart m c t ⊢ wp frame (wpE (defs₀ (F := F)) Variants.none c none) Set.univ (bodyAt0 t) (fun _ => atEnd m c t) := by
  unfold atStart atEnd bodyAt0
  simp only [before_frame, before_next]
  rw [show (dats m 0 c).Φ t.succ = (dats m 0 c).Φ t.castSucc from rfl,
    show (dats m 0 c).owesAt () t.succ = (dats m 0 c).owesAt () t.castSucc from rfl,
    after_frame, after_next, after_out]
  iintro ⟨HΦ, Ho, ⟨%d0, H0⟩, ⟨%d1, H1⟩, ⟨%d2, H2⟩⟩
  iapply (body_run c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_row (t : Fin cfg0.N) :
    defs₀ (F := F) .tc cfg0.body (cfg0.bodyArgs t (cfg0.slots t)) = bodyAt0 t := by
  unfold defs₀; rw [Defs.onTc_tc]

/-- So the body meets what the launch asks of it at every point. -/
theorem body_meets (c : Dev nD) : BodyObligation (dats (F := F) m 0 c) (defs₀ (F := F)) Variants.none () Set.univ := fun t => by
  rw [bigSep_W0, bigSep_W0, body_row]
  exact triple_restated (body_step m c t) rfl .rfl fun _ => .rfl

set_option backward.isDefEq.respectTransparency.types false in
set_option maxHeartbeats 800000 in
/-- The launch: every array ends at what the data say, every other buffer at what the host lines after the region
    leave in it, and every counter is zero. -/
theorem launch : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around_shared (Q' := _) cfgs (dats m) (0 : Fin 1) launch₀0 defs₀ Variants.none m ρ main
    (hbody := fun c => (body_meets m c).loose) (hq := fun _ _ _ => rfl) (howed := fun _ _ => rfl)
    (V₀ := V0 m) (opss := [hostOps1]) (hsub := sfx_sub) (hfresh := sfx_fresh) (hkeep := sfx_keeps)
    (hmain := hmain m Variants.none) (hA := dats_A m) (hΦ := fun _ _ => rfl)

/-- The argument ends as it began. -/
theorem argument_kept : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (dats_A m) ((θ_run defs _ _).mono (fun _ h => h.1) (launch m ρ))

/-- The frame of the launch: the argument as it began and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (argument_kept m ρ) ((θ_run defs _ _).mono (fun _ h => h.2) (launch m ρ))

end Cert.Kernel.Ent

end
-- ==== Proof.lean ====
/- The certificate: the frames of the two kernel programs and of the reference, the named constants, and the
   equation of the kernel and the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Plain.Launch
public import Idealize.ShloMosaic.Adequacy
public import Idealize.ShloMosaic.Init

@[expose] public section

noncomputable section

namespace Cert.Proof

open Idealize.ShloMosaic Idealize.SL.Sem

/-- Each named number is read as the number its name stands for. -/
theorem named_constants : Cert.preserves_Kernel_KernelIdeal :=
  ⟨IdealRules.named_const.statement Cert.KernelIdeal.κ "scale" .f32 0x4107E439#32 _ rfl,
   IdealRules.named_const.statement Cert.KernelIdeal.κ "log2e" .f32 0x3FB8AA3B#32 _ rfl,
   IdealRules.named_const.statement Cert.KernelIdeal.κ "ln2_9" .f32 0x3D9DBAC0#32 _ rfl,
   IdealRules.named_const.statement Cert.KernelIdeal.κ "c_m" .f32 0xBFFA1356#32 _ rfl,
   IdealRules.named_const.statement Cert.KernelIdeal.κ "c_j" .f32 0xC0C35955#32 _ rfl⟩

/-- The kernel's frame. -/
theorem frame_kernel : Cert.quiescent_Kernel := fun m ρ _ => Cert.Kernel.Ent.framed m ρ

/-- The frame of the kernel at its ideal reading. -/
theorem frame_kernel_ideal : Cert.quiescent_KernelIdeal := fun m ρ _ => Cert.KernelIdeal.Ent.framed m ρ

/-- The reference's frame: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The precondition's shapes fit. -/
instance : Cert.Pre_finite.Facts := Cert.KernelIdeal.Ent.pre_facts

/-- On finite inputs the kernel and the reference, both at their ideal reading, end with the same result. -/
theorem equation : Cert.algebraic_KernelIdeal_ReferenceIdeal_pre_finite := fun m ρ m' ρ' hpre hargs =>
  ⟨fun c => Cert.KernelIdeal.Ent.result m c, Cert.KernelIdeal.Ent.result_run m ρ,
    (θ_run Cert.ReferenceIdeal.defs _ _).mono (fun r h c =>
      ⟨(h c).1.trans ((Cert.ReferenceIdeal.Ent.result_eq m' c).trans ((congrArg Cert.ReferenceIdeal.Ent.whole (hargs c)).trans
        (Cert.KernelIdeal.Ent.result_eq m c (Cert.KernelIdeal.Ent.finite_of_pre _ (hpre c))).symm)), (h c).2⟩)
      (Cert.ReferenceIdeal.Value.run m' ρ')⟩

theorem claim : Cert.Claim := ⟨Cert.Kernel.Gen.facts, Cert.KernelIdeal.Gen.facts, Cert.ReferenceIdeal.Gen.facts,
  Cert.KernelIdeal.Ent.pre_facts,
  frame_kernel, frame_kernel_ideal, fun m ρ _ => Cert.KernelIdeal.Ent.framed m ρ, frame_reference,
  fun m ρ _ => frame_reference m ρ trivial, named_constants, equation⟩

end Cert.Proof

end
